-- ==== Defs.lean ====
def Pre_FfnK (m : (ℓ : Loc Cert.FfnK.nD Cert.FfnK.τ Cert.FfnK.sig) → Buf (Elt Bits) ℓ) : Prop :=
  True

def Pre_FfnKIdeal (m : (ℓ : Loc Cert.FfnKIdeal.nD Cert.FfnKIdeal.τ Cert.FfnKIdeal.sig) → Buf (Elt Ideal) ℓ) : Prop :=
  True

def Pre_FfnRIdeal (m : (ℓ : Loc Cert.FfnRIdeal.nD Cert.FfnRIdeal.τ Cert.FfnRIdeal.sig) → Buf (Elt Ideal) ℓ) : Prop :=
  True

def Pre_MixK (m : (ℓ : Loc Cert.MixK.nD Cert.MixK.τ Cert.MixK.sig) → Buf (Elt Bits) ℓ) : Prop :=
  True

def Pre_MixKIdeal (m : (ℓ : Loc Cert.MixKIdeal.nD Cert.MixKIdeal.τ Cert.MixKIdeal.sig) → Buf (Elt Ideal) ℓ) : Prop :=
  True

def Pre_MixRIdeal (m : (ℓ : Loc Cert.MixRIdeal.nD Cert.MixRIdeal.τ Cert.MixRIdeal.sig) → Buf (Elt Ideal) ℓ) : Prop :=
  True

def Pre_FwdK (m : (ℓ : Loc Cert.FwdK.nD Cert.FwdK.τ Cert.FwdK.sig) → Buf (Elt Bits) ℓ) : Prop :=
  True

def Pre_FwdKIdeal (m : (ℓ : Loc Cert.FwdKIdeal.nD Cert.FwdKIdeal.τ Cert.FwdKIdeal.sig) → Buf (Elt Ideal) ℓ) : Prop :=
  True

def Pre_BwdK (m : (ℓ : Loc Cert.BwdK.nD Cert.BwdK.τ Cert.BwdK.sig) → Buf (Elt Bits) ℓ) : Prop :=
  True

def Pre_BwdKIdeal (m : (ℓ : Loc Cert.BwdKIdeal.nD Cert.BwdKIdeal.τ Cert.BwdKIdeal.sig) → Buf (Elt Ideal) ℓ) : Prop :=
  True

def quiescent_FfnK [hFfnK : Cert.FfnK.Facts] : Prop :=
  ∀ (m : (ℓ : Loc Cert.FfnK.nD Cert.FfnK.τ Cert.FfnK.sig) → Buf (Elt Bits) ℓ) (g : Dev Cert.FfnK.nD → PrngReg), Pre_FfnK m →
    θ_run (Cert.FfnK.defs (F := Bits)) (onTc (τ := Cert.FfnK.τ) (Cert.FfnK.main (F := Bits))) ⟨m, fun _ => 0, g⟩ (fun r => (∀ c : Dev Cert.FfnK.nD,
      r.2.mem ((c.tc : Thread Cert.FfnK.nD Cert.FfnK.τ).loc Cert.FfnK.main_arg0) = m ((c.tc : Thread Cert.FfnK.nD Cert.FfnK.τ).loc Cert.FfnK.main_arg0)
      ∧ r.2.mem ((c.tc : Thread Cert.FfnK.nD Cert.FfnK.τ).loc Cert.FfnK.main_arg1) = m ((c.tc : Thread Cert.FfnK.nD Cert.FfnK.τ).loc Cert.FfnK.main_arg1)
      ∧ r.2.mem ((c.tc : Thread Cert.FfnK.nD Cert.FfnK.τ).loc Cert.FfnK.main_arg2) = m ((c.tc : Thread Cert.FfnK.nD Cert.FfnK.τ).loc Cert.FfnK.main_arg2)
      ∧ r.2.mem ((c.tc : Thread Cert.FfnK.nD Cert.FfnK.τ).loc Cert.FfnK.main_arg3) = m ((c.tc : Thread Cert.FfnK.nD Cert.FfnK.τ).loc Cert.FfnK.main_arg3)
      ∧ r.2.mem ((c.tc : Thread Cert.FfnK.nD Cert.FfnK.τ).loc Cert.FfnK.main_arg4) = m ((c.tc : Thread Cert.FfnK.nD Cert.FfnK.τ).loc Cert.FfnK.main_arg4)
      ∧ r.2.mem ((c.tc : Thread Cert.FfnK.nD Cert.FfnK.τ).loc Cert.FfnK.main_arg5) = m ((c.tc : Thread Cert.FfnK.nD Cert.FfnK.τ).loc Cert.FfnK.main_arg5))
      ∧ r.2.sem = fun _ => 0)

def quiescent_FfnKIdeal [hFfnKIdeal : Cert.FfnKIdeal.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
      ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4)
      ∧ r.2.mem ((c.tc : Thread Cert.FfnKIdeal.nD Cert.FfnKIdeal.τ).loc Cert.FfnKIdeal.main_arg5) = m ((c.tc : Thread Cert.FfnKIdeal.nD Cert.FfnKIdeal.τ).loc Cert.FfnKIdeal.main_arg5))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3)
      ∧ r.2.mem ((c.tc : Thread Cert.FfnRIdeal.nD Cert.FfnRIdeal.τ).loc Cert.FfnRIdeal.main_arg4) = m ((c.tc : Thread Cert.FfnRIdeal.nD Cert.FfnRIdeal.τ).loc Cert.FfnRIdeal.main_arg4)
      ∧ r.2.mem ((c.tc : Thread Cert.FfnRIdeal.nD Cert.FfnRIdeal.τ).loc Cert.FfnRIdeal.main_arg5) = m ((c.tc : Thread Cert.FfnRIdeal.nD Cert.FfnRIdeal.τ).loc Cert.FfnRIdeal.main_arg5))
      ∧ r.2.sem = fun _ => 0)

def quiescent_MixK [hMixK : Cert.MixK.Facts] : Prop :=
  ∀ (m : (ℓ : Loc Cert.MixK.nD Cert.MixK.τ Cert.MixK.sig) → Buf (Elt Bits) ℓ) (g : Dev Cert.MixK.nD → PrngReg), Pre_MixK m →
    θ_run (Cert.MixK.defs (F := Bits)) (onTc (τ := Cert.MixK.τ) (Cert.MixK.main (F := Bits))) ⟨m, fun _ => 0, g⟩ (fun r => (∀ c : Dev Cert.MixK.nD,
      r.2.mem ((c.tc : Thread Cert.MixK.nD Cert.MixK.τ).loc Cert.MixK.main_arg0) = m ((c.tc : Thread Cert.MixK.nD Cert.MixK.τ).loc Cert.MixK.main_arg0)
      ∧ r.2.mem ((c.tc : Thread Cert.MixK.nD Cert.MixK.τ).loc Cert.MixK.main_arg1) = m ((c.tc : Thread Cert.MixK.nD Cert.MixK.τ).loc Cert.MixK.main_arg1)
      ∧ r.2.mem ((c.tc : Thread Cert.MixK.nD Cert.MixK.τ).loc Cert.MixK.main_arg2) = m ((c.tc : Thread Cert.MixK.nD Cert.MixK.τ).loc Cert.MixK.main_arg2)
      ∧ r.2.mem ((c.tc : Thread Cert.MixK.nD Cert.MixK.τ).loc Cert.MixK.main_arg3) = m ((c.tc : Thread Cert.MixK.nD Cert.MixK.τ).loc Cert.MixK.main_arg3)
      ∧ r.2.mem ((c.tc : Thread Cert.MixK.nD Cert.MixK.τ).loc Cert.MixK.main_arg4) = m ((c.tc : Thread Cert.MixK.nD Cert.MixK.τ).loc Cert.MixK.main_arg4)
      ∧ r.2.mem ((c.tc : Thread Cert.MixK.nD Cert.MixK.τ).loc Cert.MixK.main_arg5) = m ((c.tc : Thread Cert.MixK.nD Cert.MixK.τ).loc Cert.MixK.main_arg5)
      ∧ r.2.mem ((c.tc : Thread Cert.MixK.nD Cert.MixK.τ).loc Cert.MixK.main_arg6) = m ((c.tc : Thread Cert.MixK.nD Cert.MixK.τ).loc Cert.MixK.main_arg6)
      ∧ r.2.mem ((c.tc : Thread Cert.MixK.nD Cert.MixK.τ).loc Cert.MixK.main_arg7) = m ((c.tc : Thread Cert.MixK.nD Cert.MixK.τ).loc Cert.MixK.main_arg7)
      ∧ r.2.mem ((c.tc : Thread Cert.MixK.nD Cert.MixK.τ).loc Cert.MixK.main_arg8) = m ((c.tc : Thread Cert.MixK.nD Cert.MixK.τ).loc Cert.MixK.main_arg8)
      ∧ r.2.mem ((c.tc : Thread Cert.MixK.nD Cert.MixK.τ).loc Cert.MixK.main_arg9) = m ((c.tc : Thread Cert.MixK.nD Cert.MixK.τ).loc Cert.MixK.main_arg9)
      ∧ r.2.mem ((c.tc : Thread Cert.MixK.nD Cert.MixK.τ).loc Cert.MixK.main_arg10) = m ((c.tc : Thread Cert.MixK.nD Cert.MixK.τ).loc Cert.MixK.main_arg10)
      ∧ r.2.mem ((c.tc : Thread Cert.MixK.nD Cert.MixK.τ).loc Cert.MixK.main_arg11) = m ((c.tc : Thread Cert.MixK.nD Cert.MixK.τ).loc Cert.MixK.main_arg11)
      ∧ r.2.mem ((c.tc : Thread Cert.MixK.nD Cert.MixK.τ).loc Cert.MixK.main_arg12) = m ((c.tc : Thread Cert.MixK.nD Cert.MixK.τ).loc Cert.MixK.main_arg12)
      ∧ r.2.mem ((c.tc : Thread Cert.MixK.nD Cert.MixK.τ).loc Cert.MixK.main_arg13) = m ((c.tc : Thread Cert.MixK.nD Cert.MixK.τ).loc Cert.MixK.main_arg13)
      ∧ r.2.mem ((c.tc : Thread Cert.MixK.nD Cert.MixK.τ).loc Cert.MixK.main_arg14) = m ((c.tc : Thread Cert.MixK.nD Cert.MixK.τ).loc Cert.MixK.main_arg14)
      ∧ r.2.mem ((c.tc : Thread Cert.MixK.nD Cert.MixK.τ).loc Cert.MixK.main_arg15) = m ((c.tc : Thread Cert.MixK.nD Cert.MixK.τ).loc Cert.MixK.main_arg15)
      ∧ r.2.mem ((c.tc : Thread Cert.MixK.nD Cert.MixK.τ).loc Cert.MixK.main_arg16) = m ((c.tc : Thread Cert.MixK.nD Cert.MixK.τ).loc Cert.MixK.main_arg16)
      ∧ r.2.mem ((c.tc : Thread Cert.MixK.nD Cert.MixK.τ).loc Cert.MixK.main_arg17) = m ((c.tc : Thread Cert.MixK.nD Cert.MixK.τ).loc Cert.MixK.main_arg17))
      ∧ r.2.sem = fun _ => 0)

def quiescent_MixKIdeal [hMixKIdeal : Cert.MixKIdeal.Facts] : Prop :=
  ∀ (m : (ℓ : Loc Cert.MixKIdeal.nD Cert.MixKIdeal.τ Cert.MixKIdeal.sig) → Buf (Elt Ideal) ℓ) (g : Dev Cert.MixKIdeal.nD → PrngReg), Pre_MixKIdeal m →
    θ_run (Cert.MixKIdeal.defs (F := Ideal)) (onTc (τ := Cert.MixKIdeal.τ) (Cert.MixKIdeal.main (F := Ideal))) ⟨m, fun _ => 0, g⟩ (fun r => (∀ c : Dev Cert.MixKIdeal.nD,
      r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
      ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
      ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
      ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
      ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
      ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
      ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
      ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7)
      ∧ r.2.mem ((c.tc : Thread Cert.MixKIdeal.nD Cert.MixKIdeal.τ).loc Cert.MixKIdeal.main_arg8) = m ((c.tc : Thread Cert.MixKIdeal.nD Cert.MixKIdeal.τ).loc Cert.MixKIdeal.main_arg8)
      ∧ r.2.mem ((c.tc : Thread Cert.MixKIdeal.nD Cert.MixKIdeal.τ).loc Cert.MixKIdeal.main_arg9) = m ((c.tc : Thread Cert.MixKIdeal.nD Cert.MixKIdeal.τ).loc Cert.MixKIdeal.main_arg9)
      ∧ r.2.mem ((c.tc : Thread Cert.MixKIdeal.nD Cert.MixKIdeal.τ).loc Cert.MixKIdeal.main_arg10) = m ((c.tc : Thread Cert.MixKIdeal.nD Cert.MixKIdeal.τ).loc Cert.MixKIdeal.main_arg10)
      ∧ r.2.mem ((c.tc : Thread Cert.MixKIdeal.nD Cert.MixKIdeal.τ).loc Cert.MixKIdeal.main_arg11) = m ((c.tc : Thread Cert.MixKIdeal.nD Cert.MixKIdeal.τ).loc Cert.MixKIdeal.main_arg11)
      ∧ r.2.mem ((c.tc : Thread Cert.MixKIdeal.nD Cert.MixKIdeal.τ).loc Cert.MixKIdeal.main_arg12) = m ((c.tc : Thread Cert.MixKIdeal.nD Cert.MixKIdeal.τ).loc Cert.MixKIdeal.main_arg12)
      ∧ r.2.mem ((c.tc : Thread Cert.MixKIdeal.nD Cert.MixKIdeal.τ).loc Cert.MixKIdeal.main_arg13) = m ((c.tc : Thread Cert.MixKIdeal.nD Cert.MixKIdeal.τ).loc Cert.MixKIdeal.main_arg13)
      ∧ r.2.mem ((c.tc : Thread Cert.MixKIdeal.nD Cert.MixKIdeal.τ).loc Cert.MixKIdeal.main_arg14) = m ((c.tc : Thread Cert.MixKIdeal.nD Cert.MixKIdeal.τ).loc Cert.MixKIdeal.main_arg14)
      ∧ r.2.mem ((c.tc : Thread Cert.MixKIdeal.nD Cert.MixKIdeal.τ).loc Cert.MixKIdeal.main_arg15) = m ((c.tc : Thread Cert.MixKIdeal.nD Cert.MixKIdeal.τ).loc Cert.MixKIdeal.main_arg15)
      ∧ r.2.mem ((c.tc : Thread Cert.MixKIdeal.nD Cert.MixKIdeal.τ).loc Cert.MixKIdeal.main_arg16) = m ((c.tc : Thread Cert.MixKIdeal.nD Cert.MixKIdeal.τ).loc Cert.MixKIdeal.main_arg16)
      ∧ r.2.mem ((c.tc : Thread Cert.MixKIdeal.nD Cert.MixKIdeal.τ).loc Cert.MixKIdeal.main_arg17) = m ((c.tc : Thread Cert.MixKIdeal.nD Cert.MixKIdeal.τ).loc Cert.MixKIdeal.main_arg17))
      ∧ r.2.sem = fun _ => 0)

def quiescent_MixRIdeal [hMixRIdeal : Cert.MixRIdeal.Facts] : Prop :=
  ∀ (m : (ℓ : Loc Cert.MixRIdeal.nD Cert.MixRIdeal.τ Cert.MixRIdeal.sig) → Buf (Elt Ideal) ℓ) (g : Dev Cert.MixRIdeal.nD → PrngReg), Pre_MixRIdeal m →
    θ_run (Cert.MixRIdeal.defs (F := Ideal)) (onTc (τ := Cert.MixRIdeal.τ) (Cert.MixRIdeal.main (F := Ideal))) ⟨m, fun _ => 0, g⟩ (fun r => (∀ c : Dev Cert.MixRIdeal.nD,
      r.2.mem ((c.tc : Thread Cert.MixRIdeal.nD Cert.MixRIdeal.τ).loc Cert.MixRIdeal.main_arg0) = m ((c.tc : Thread Cert.MixRIdeal.nD Cert.MixRIdeal.τ).loc Cert.MixRIdeal.main_arg0)
      ∧ r.2.mem ((c.tc : Thread Cert.MixRIdeal.nD Cert.MixRIdeal.τ).loc Cert.MixRIdeal.main_arg1) = m ((c.tc : Thread Cert.MixRIdeal.nD Cert.MixRIdeal.τ).loc Cert.MixRIdeal.main_arg1)
      ∧ r.2.mem ((c.tc : Thread Cert.MixRIdeal.nD Cert.MixRIdeal.τ).loc Cert.MixRIdeal.main_arg2) = m ((c.tc : Thread Cert.MixRIdeal.nD Cert.MixRIdeal.τ).loc Cert.MixRIdeal.main_arg2)
      ∧ r.2.mem ((c.tc : Thread Cert.MixRIdeal.nD Cert.MixRIdeal.τ).loc Cert.MixRIdeal.main_arg3) = m ((c.tc : Thread Cert.MixRIdeal.nD Cert.MixRIdeal.τ).loc Cert.MixRIdeal.main_arg3)
      ∧ r.2.mem ((c.tc : Thread Cert.MixRIdeal.nD Cert.MixRIdeal.τ).loc Cert.MixRIdeal.main_arg4) = m ((c.tc : Thread Cert.MixRIdeal.nD Cert.MixRIdeal.τ).loc Cert.MixRIdeal.main_arg4)
      ∧ r.2.mem ((c.tc : Thread Cert.MixRIdeal.nD Cert.MixRIdeal.τ).loc Cert.MixRIdeal.main_arg5) = m ((c.tc : Thread Cert.MixRIdeal.nD Cert.MixRIdeal.τ).loc Cert.MixRIdeal.main_arg5)
      ∧ r.2.mem ((c.tc : Thread Cert.MixRIdeal.nD Cert.MixRIdeal.τ).loc Cert.MixRIdeal.main_arg6) = m ((c.tc : Thread Cert.MixRIdeal.nD Cert.MixRIdeal.τ).loc Cert.MixRIdeal.main_arg6)
      ∧ r.2.mem ((c.tc : Thread Cert.MixRIdeal.nD Cert.MixRIdeal.τ).loc Cert.MixRIdeal.main_arg7) = m ((c.tc : Thread Cert.MixRIdeal.nD Cert.MixRIdeal.τ).loc Cert.MixRIdeal.main_arg7)
      ∧ r.2.mem ((c.tc : Thread Cert.MixRIdeal.nD Cert.MixRIdeal.τ).loc Cert.MixRIdeal.main_arg8) = m ((c.tc : Thread Cert.MixRIdeal.nD Cert.MixRIdeal.τ).loc Cert.MixRIdeal.main_arg8)
      ∧ r.2.mem ((c.tc : Thread Cert.MixRIdeal.nD Cert.MixRIdeal.τ).loc Cert.MixRIdeal.main_arg9) = m ((c.tc : Thread Cert.MixRIdeal.nD Cert.MixRIdeal.τ).loc Cert.MixRIdeal.main_arg9)
      ∧ r.2.mem ((c.tc : Thread Cert.MixRIdeal.nD Cert.MixRIdeal.τ).loc Cert.MixRIdeal.main_arg10) = m ((c.tc : Thread Cert.MixRIdeal.nD Cert.MixRIdeal.τ).loc Cert.MixRIdeal.main_arg10)
      ∧ r.2.mem ((c.tc : Thread Cert.MixRIdeal.nD Cert.MixRIdeal.τ).loc Cert.MixRIdeal.main_arg11) = m ((c.tc : Thread Cert.MixRIdeal.nD Cert.MixRIdeal.τ).loc Cert.MixRIdeal.main_arg11)
      ∧ r.2.mem ((c.tc : Thread Cert.MixRIdeal.nD Cert.MixRIdeal.τ).loc Cert.MixRIdeal.main_arg12) = m ((c.tc : Thread Cert.MixRIdeal.nD Cert.MixRIdeal.τ).loc Cert.MixRIdeal.main_arg12)
      ∧ r.2.mem ((c.tc : Thread Cert.MixRIdeal.nD Cert.MixRIdeal.τ).loc Cert.MixRIdeal.main_arg13) = m ((c.tc : Thread Cert.MixRIdeal.nD Cert.MixRIdeal.τ).loc Cert.MixRIdeal.main_arg13)
      ∧ r.2.mem ((c.tc : Thread Cert.MixRIdeal.nD Cert.MixRIdeal.τ).loc Cert.MixRIdeal.main_arg14) = m ((c.tc : Thread Cert.MixRIdeal.nD Cert.MixRIdeal.τ).loc Cert.MixRIdeal.main_arg14)
      ∧ r.2.mem ((c.tc : Thread Cert.MixRIdeal.nD Cert.MixRIdeal.τ).loc Cert.MixRIdeal.main_arg15) = m ((c.tc : Thread Cert.MixRIdeal.nD Cert.MixRIdeal.τ).loc Cert.MixRIdeal.main_arg15)
      ∧ r.2.mem ((c.tc : Thread Cert.MixRIdeal.nD Cert.MixRIdeal.τ).loc Cert.MixRIdeal.main_arg16) = m ((c.tc : Thread Cert.MixRIdeal.nD Cert.MixRIdeal.τ).loc Cert.MixRIdeal.main_arg16)
      ∧ r.2.mem ((c.tc : Thread Cert.MixRIdeal.nD Cert.MixRIdeal.τ).loc Cert.MixRIdeal.main_arg17) = m ((c.tc : Thread Cert.MixRIdeal.nD Cert.MixRIdeal.τ).loc Cert.MixRIdeal.main_arg17))
      ∧ r.2.sem = fun _ => 0)

def quiescent_FwdK [hFwdK : Cert.FwdK.Facts] : Prop :=
  ∀ (m : (ℓ : Loc Cert.FwdK.nD Cert.FwdK.τ Cert.FwdK.sig) → Buf (Elt Bits) ℓ) (g : Dev Cert.FwdK.nD → PrngReg), Pre_FwdK m →
    θ_run (Cert.FwdK.defs (F := Bits)) (onTc (τ := Cert.FwdK.τ) (Cert.FwdK.main (F := Bits))) ⟨m, fun _ => 0, g⟩ (fun r => (∀ c : Dev Cert.FwdK.nD,
      r.2.mem ((c.tc : Thread Cert.FwdK.nD Cert.FwdK.τ).loc Cert.FwdK.main_arg0) = m ((c.tc : Thread Cert.FwdK.nD Cert.FwdK.τ).loc Cert.FwdK.main_arg0)
      ∧ r.2.mem ((c.tc : Thread Cert.FwdK.nD Cert.FwdK.τ).loc Cert.FwdK.main_arg1) = m ((c.tc : Thread Cert.FwdK.nD Cert.FwdK.τ).loc Cert.FwdK.main_arg1)
      ∧ r.2.mem ((c.tc : Thread Cert.FwdK.nD Cert.FwdK.τ).loc Cert.FwdK.main_arg2) = m ((c.tc : Thread Cert.FwdK.nD Cert.FwdK.τ).loc Cert.FwdK.main_arg2)
      ∧ r.2.mem ((c.tc : Thread Cert.FwdK.nD Cert.FwdK.τ).loc Cert.FwdK.main_arg3) = m ((c.tc : Thread Cert.FwdK.nD Cert.FwdK.τ).loc Cert.FwdK.main_arg3)
      ∧ r.2.mem ((c.tc : Thread Cert.FwdK.nD Cert.FwdK.τ).loc Cert.FwdK.main_arg4) = m ((c.tc : Thread Cert.FwdK.nD Cert.FwdK.τ).loc Cert.FwdK.main_arg4)
      ∧ r.2.mem ((c.tc : Thread Cert.FwdK.nD Cert.FwdK.τ).loc Cert.FwdK.main_arg5) = m ((c.tc : Thread Cert.FwdK.nD Cert.FwdK.τ).loc Cert.FwdK.main_arg5))
      ∧ r.2.sem = fun _ => 0)

def quiescent_FwdKIdeal [hFwdKIdeal : Cert.FwdKIdeal.Facts] : Prop :=
  ∀ (m : (ℓ : Loc Cert.FwdKIdeal.nD Cert.FwdKIdeal.τ Cert.FwdKIdeal.sig) → Buf (Elt Ideal) ℓ) (g : Dev Cert.FwdKIdeal.nD → PrngReg), Pre_FwdKIdeal m →
    θ_run (Cert.FwdKIdeal.defs (F := Ideal)) (onTc (τ := Cert.FwdKIdeal.τ) (Cert.FwdKIdeal.main (F := Ideal))) ⟨m, fun _ => 0, g⟩ (fun r => (∀ c : Dev Cert.FwdKIdeal.nD,
      r.2.mem ((c.tc : Thread Cert.FwdKIdeal.nD Cert.FwdKIdeal.τ).loc Cert.FwdKIdeal.main_arg0) = m ((c.tc : Thread Cert.FwdKIdeal.nD Cert.FwdKIdeal.τ).loc Cert.FwdKIdeal.main_arg0)
      ∧ r.2.mem ((c.tc : Thread Cert.FwdKIdeal.nD Cert.FwdKIdeal.τ).loc Cert.FwdKIdeal.main_arg1) = m ((c.tc : Thread Cert.FwdKIdeal.nD Cert.FwdKIdeal.τ).loc Cert.FwdKIdeal.main_arg1)
      ∧ r.2.mem ((c.tc : Thread Cert.FwdKIdeal.nD Cert.FwdKIdeal.τ).loc Cert.FwdKIdeal.main_arg2) = m ((c.tc : Thread Cert.FwdKIdeal.nD Cert.FwdKIdeal.τ).loc Cert.FwdKIdeal.main_arg2)
      ∧ r.2.mem ((c.tc : Thread Cert.FwdKIdeal.nD Cert.FwdKIdeal.τ).loc Cert.FwdKIdeal.main_arg3) = m ((c.tc : Thread Cert.FwdKIdeal.nD Cert.FwdKIdeal.τ).loc Cert.FwdKIdeal.main_arg3)
      ∧ r.2.mem ((c.tc : Thread Cert.FwdKIdeal.nD Cert.FwdKIdeal.τ).loc Cert.FwdKIdeal.main_arg4) = m ((c.tc : Thread Cert.FwdKIdeal.nD Cert.FwdKIdeal.τ).loc Cert.FwdKIdeal.main_arg4)
      ∧ r.2.mem ((c.tc : Thread Cert.FwdKIdeal.nD Cert.FwdKIdeal.τ).loc Cert.FwdKIdeal.main_arg5) = m ((c.tc : Thread Cert.FwdKIdeal.nD Cert.FwdKIdeal.τ).loc Cert.FwdKIdeal.main_arg5))
      ∧ r.2.sem = fun _ => 0)

def quiescent_BwdK [hBwdK : Cert.BwdK.Facts] : Prop :=
  ∀ (m : (ℓ : Loc Cert.BwdK.nD Cert.BwdK.τ Cert.BwdK.sig) → Buf (Elt Bits) ℓ) (g : Dev Cert.BwdK.nD → PrngReg), Pre_BwdK m →
    θ_run (Cert.BwdK.defs (F := Bits)) (onTc (τ := Cert.BwdK.τ) (Cert.BwdK.main (F := Bits))) ⟨m, fun _ => 0, g⟩ (fun r => (∀ c : Dev Cert.BwdK.nD,
      r.2.mem ((c.tc : Thread Cert.BwdK.nD Cert.BwdK.τ).loc Cert.BwdK.main_arg0) = m ((c.tc : Thread Cert.BwdK.nD Cert.BwdK.τ).loc Cert.BwdK.main_arg0)
      ∧ r.2.mem ((c.tc : Thread Cert.BwdK.nD Cert.BwdK.τ).loc Cert.BwdK.main_arg1) = m ((c.tc : Thread Cert.BwdK.nD Cert.BwdK.τ).loc Cert.BwdK.main_arg1)
      ∧ r.2.mem ((c.tc : Thread Cert.BwdK.nD Cert.BwdK.τ).loc Cert.BwdK.main_arg2) = m ((c.tc : Thread Cert.BwdK.nD Cert.BwdK.τ).loc Cert.BwdK.main_arg2)
      ∧ r.2.mem ((c.tc : Thread Cert.BwdK.nD Cert.BwdK.τ).loc Cert.BwdK.main_arg3) = m ((c.tc : Thread Cert.BwdK.nD Cert.BwdK.τ).loc Cert.BwdK.main_arg3)
      ∧ r.2.mem ((c.tc : Thread Cert.BwdK.nD Cert.BwdK.τ).loc Cert.BwdK.main_arg4) = m ((c.tc : Thread Cert.BwdK.nD Cert.BwdK.τ).loc Cert.BwdK.main_arg4)
      ∧ r.2.mem ((c.tc : Thread Cert.BwdK.nD Cert.BwdK.τ).loc Cert.BwdK.main_arg5) = m ((c.tc : Thread Cert.BwdK.nD Cert.BwdK.τ).loc Cert.BwdK.main_arg5)
      ∧ r.2.mem ((c.tc : Thread Cert.BwdK.nD Cert.BwdK.τ).loc Cert.BwdK.main_arg6) = m ((c.tc : Thread Cert.BwdK.nD Cert.BwdK.τ).loc Cert.BwdK.main_arg6))
      ∧ r.2.sem = fun _ => 0)

def quiescent_BwdKIdeal [hBwdKIdeal : Cert.BwdKIdeal.Facts] : Prop :=
  ∀ (m : (ℓ : Loc Cert.BwdKIdeal.nD Cert.BwdKIdeal.τ Cert.BwdKIdeal.sig) → Buf (Elt Ideal) ℓ) (g : Dev Cert.BwdKIdeal.nD → PrngReg), Pre_BwdKIdeal m →
    θ_run (Cert.BwdKIdeal.defs (F := Ideal)) (onTc (τ := Cert.BwdKIdeal.τ) (Cert.BwdKIdeal.main (F := Ideal))) ⟨m, fun _ => 0, g⟩ (fun r => (∀ c : Dev Cert.BwdKIdeal.nD,
      r.2.mem ((c.tc : Thread Cert.BwdKIdeal.nD Cert.BwdKIdeal.τ).loc Cert.BwdKIdeal.main_arg0) = m ((c.tc : Thread Cert.BwdKIdeal.nD Cert.BwdKIdeal.τ).loc Cert.BwdKIdeal.main_arg0)
      ∧ r.2.mem ((c.tc : Thread Cert.BwdKIdeal.nD Cert.BwdKIdeal.τ).loc Cert.BwdKIdeal.main_arg1) = m ((c.tc : Thread Cert.BwdKIdeal.nD Cert.BwdKIdeal.τ).loc Cert.BwdKIdeal.main_arg1)
      ∧ r.2.mem ((c.tc : Thread Cert.BwdKIdeal.nD Cert.BwdKIdeal.τ).loc Cert.BwdKIdeal.main_arg2) = m ((c.tc : Thread Cert.BwdKIdeal.nD Cert.BwdKIdeal.τ).loc Cert.BwdKIdeal.main_arg2)
      ∧ r.2.mem ((c.tc : Thread Cert.BwdKIdeal.nD Cert.BwdKIdeal.τ).loc Cert.BwdKIdeal.main_arg3) = m ((c.tc : Thread Cert.BwdKIdeal.nD Cert.BwdKIdeal.τ).loc Cert.BwdKIdeal.main_arg3)
      ∧ r.2.mem ((c.tc : Thread Cert.BwdKIdeal.nD Cert.BwdKIdeal.τ).loc Cert.BwdKIdeal.main_arg4) = m ((c.tc : Thread Cert.BwdKIdeal.nD Cert.BwdKIdeal.τ).loc Cert.BwdKIdeal.main_arg4)
      ∧ r.2.mem ((c.tc : Thread Cert.BwdKIdeal.nD Cert.BwdKIdeal.τ).loc Cert.BwdKIdeal.main_arg5) = m ((c.tc : Thread Cert.BwdKIdeal.nD Cert.BwdKIdeal.τ).loc Cert.BwdKIdeal.main_arg5)
      ∧ r.2.mem ((c.tc : Thread Cert.BwdKIdeal.nD Cert.BwdKIdeal.τ).loc Cert.BwdKIdeal.main_arg6) = m ((c.tc : Thread Cert.BwdKIdeal.nD Cert.BwdKIdeal.τ).loc Cert.BwdKIdeal.main_arg6))
      ∧ r.2.sem = fun _ => 0)

def preserves_FfnK_FfnKIdeal : Prop :=
  True

def algebraic_FfnKIdeal_FfnRIdeal [hFfnKIdeal : Cert.FfnKIdeal.Facts] [hFfnRIdeal : Cert.FfnRIdeal.Facts] : Prop :=
  ∀ (m : (ℓ : Loc Cert.FfnKIdeal.nD Cert.FfnKIdeal.τ Cert.FfnKIdeal.sig) → Buf (Elt Ideal) ℓ) (g : Dev Cert.FfnKIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnKIdeal m →
    (∀ c : Dev Cert.FfnKIdeal.nD,
      m' ((c.tc : Thread Cert.FfnRIdeal.nD Cert.FfnRIdeal.τ).loc Cert.FfnRIdeal.main_arg0) = m ((c.tc : Thread Cert.FfnKIdeal.nD Cert.FfnKIdeal.τ).loc Cert.FfnKIdeal.main_arg0)
      ∧ m' ((c.tc : Thread Cert.FfnRIdeal.nD Cert.FfnRIdeal.τ).loc Cert.FfnRIdeal.main_arg1) = m ((c.tc : Thread Cert.FfnKIdeal.nD Cert.FfnKIdeal.τ).loc Cert.FfnKIdeal.main_arg1)
      ∧ m' ((c.tc : Thread Cert.FfnRIdeal.nD Cert.FfnRIdeal.τ).loc Cert.FfnRIdeal.main_arg2) = m ((c.tc : Thread Cert.FfnKIdeal.nD Cert.FfnKIdeal.τ).loc Cert.FfnKIdeal.main_arg2)
      ∧ m' ((c.tc : Thread Cert.FfnRIdeal.nD Cert.FfnRIdeal.τ).loc Cert.FfnRIdeal.main_arg3) = m ((c.tc : Thread Cert.FfnKIdeal.nD Cert.FfnKIdeal.τ).loc Cert.FfnKIdeal.main_arg3)
      ∧ m' ((c.tc : Thread Cert.FfnRIdeal.nD Cert.FfnRIdeal.τ).loc Cert.FfnRIdeal.main_arg4) = m ((c.tc : Thread Cert.FfnKIdeal.nD Cert.FfnKIdeal.τ).loc Cert.FfnKIdeal.main_arg4)
      ∧ m' ((c.tc : Thread Cert.FfnRIdeal.nD Cert.FfnRIdeal.τ).loc Cert.FfnRIdeal.main_arg5) = m ((c.tc : Thread Cert.FfnKIdeal.nD Cert.FfnKIdeal.τ).loc Cert.FfnKIdeal.main_arg5)) →
    ∃ (v0 : (c : Dev Cert.FfnKIdeal.nD) → Buf (Elt Ideal) ((c.tc : Thread Cert.FfnKIdeal.nD Cert.FfnKIdeal.τ).loc Cert.FfnKIdeal.main_v6)),
      θ_run (Cert.FfnKIdeal.defs (F := Ideal)) (onTc (τ := Cert.FfnKIdeal.τ) (Cert.FfnKIdeal.main (F := Ideal))) ⟨m, fun _ => 0, g⟩ (fun r => ∀ c : Dev Cert.FfnKIdeal.nD,
          r.2.mem ((c.tc : Thread Cert.FfnKIdeal.nD Cert.FfnKIdeal.τ).loc Cert.FfnKIdeal.main_v6) = v0 c
          ∧ r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
          ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
          ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
          ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
          ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4)
          ∧ r.2.mem ((c.tc : Thread Cert.FfnKIdeal.nD Cert.FfnKIdeal.τ).loc Cert.FfnKIdeal.main_arg5) = m ((c.tc : Thread Cert.FfnKIdeal.nD Cert.FfnKIdeal.τ).loc Cert.FfnKIdeal.main_arg5))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v46) = v0 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3)
          ∧ r.2.mem ((c.tc : Thread Cert.FfnRIdeal.nD Cert.FfnRIdeal.τ).loc Cert.FfnRIdeal.main_arg4) = m' ((c.tc : Thread Cert.FfnRIdeal.nD Cert.FfnRIdeal.τ).loc Cert.FfnRIdeal.main_arg4)
          ∧ r.2.mem ((c.tc : Thread Cert.FfnRIdeal.nD Cert.FfnRIdeal.τ).loc Cert.FfnRIdeal.main_arg5) = m' ((c.tc : Thread Cert.FfnRIdeal.nD Cert.FfnRIdeal.τ).loc Cert.FfnRIdeal.main_arg5))

def preserves_MixK_MixKIdeal : Prop :=
  True

def algebraic_MixKIdeal_MixRIdeal [hMixKIdeal : Cert.MixKIdeal.Facts] [hMixRIdeal : Cert.MixRIdeal.Facts] : Prop :=
  ∀ (m : (ℓ : Loc Cert.MixKIdeal.nD Cert.MixKIdeal.τ Cert.MixKIdeal.sig) → Buf (Elt Ideal) ℓ) (g : Dev Cert.MixKIdeal.nD → PrngReg)
    (m' : (ℓ : Loc Cert.MixRIdeal.nD Cert.MixRIdeal.τ Cert.MixRIdeal.sig) → Buf (Elt Ideal) ℓ) (g' : Dev Cert.MixRIdeal.nD → PrngReg), Pre_MixKIdeal m →
    (∀ c : Dev Cert.MixKIdeal.nD,
      m' ((c.tc : Thread Cert.MixRIdeal.nD Cert.MixRIdeal.τ).loc Cert.MixRIdeal.main_arg0) = m ((c.tc : Thread Cert.MixKIdeal.nD Cert.MixKIdeal.τ).loc Cert.MixKIdeal.main_arg0)
      ∧ m' ((c.tc : Thread Cert.MixRIdeal.nD Cert.MixRIdeal.τ).loc Cert.MixRIdeal.main_arg1) = m ((c.tc : Thread Cert.MixKIdeal.nD Cert.MixKIdeal.τ).loc Cert.MixKIdeal.main_arg1)
      ∧ m' ((c.tc : Thread Cert.MixRIdeal.nD Cert.MixRIdeal.τ).loc Cert.MixRIdeal.main_arg2) = m ((c.tc : Thread Cert.MixKIdeal.nD Cert.MixKIdeal.τ).loc Cert.MixKIdeal.main_arg2)
      ∧ m' ((c.tc : Thread Cert.MixRIdeal.nD Cert.MixRIdeal.τ).loc Cert.MixRIdeal.main_arg3) = m ((c.tc : Thread Cert.MixKIdeal.nD Cert.MixKIdeal.τ).loc Cert.MixKIdeal.main_arg3)
      ∧ m' ((c.tc : Thread Cert.MixRIdeal.nD Cert.MixRIdeal.τ).loc Cert.MixRIdeal.main_arg4) = m ((c.tc : Thread Cert.MixKIdeal.nD Cert.MixKIdeal.τ).loc Cert.MixKIdeal.main_arg4)
      ∧ m' ((c.tc : Thread Cert.MixRIdeal.nD Cert.MixRIdeal.τ).loc Cert.MixRIdeal.main_arg5) = m ((c.tc : Thread Cert.MixKIdeal.nD Cert.MixKIdeal.τ).loc Cert.MixKIdeal.main_arg5)
      ∧ m' ((c.tc : Thread Cert.MixRIdeal.nD Cert.MixRIdeal.τ).loc Cert.MixRIdeal.main_arg6) = m ((c.tc : Thread Cert.MixKIdeal.nD Cert.MixKIdeal.τ).loc Cert.MixKIdeal.main_arg6)
      ∧ m' ((c.tc : Thread Cert.MixRIdeal.nD Cert.MixRIdeal.τ).loc Cert.MixRIdeal.main_arg7) = m ((c.tc : Thread Cert.MixKIdeal.nD Cert.MixKIdeal.τ).loc Cert.MixKIdeal.main_arg7)
      ∧ m' ((c.tc : Thread Cert.MixRIdeal.nD Cert.MixRIdeal.τ).loc Cert.MixRIdeal.main_arg8) = m ((c.tc : Thread Cert.MixKIdeal.nD Cert.MixKIdeal.τ).loc Cert.MixKIdeal.main_arg8)
      ∧ m' ((c.tc : Thread Cert.MixRIdeal.nD Cert.MixRIdeal.τ).loc Cert.MixRIdeal.main_arg9) = m ((c.tc : Thread Cert.MixKIdeal.nD Cert.MixKIdeal.τ).loc Cert.MixKIdeal.main_arg9)
      ∧ m' ((c.tc : Thread Cert.MixRIdeal.nD Cert.MixRIdeal.τ).loc Cert.MixRIdeal.main_arg10) = m ((c.tc : Thread Cert.MixKIdeal.nD Cert.MixKIdeal.τ).loc Cert.MixKIdeal.main_arg10)
      ∧ m' ((c.tc : Thread Cert.MixRIdeal.nD Cert.MixRIdeal.τ).loc Cert.MixRIdeal.main_arg11) = m ((c.tc : Thread Cert.MixKIdeal.nD Cert.MixKIdeal.τ).loc Cert.MixKIdeal.main_arg11)
      ∧ m' ((c.tc : Thread Cert.MixRIdeal.nD Cert.MixRIdeal.τ).loc Cert.MixRIdeal.main_arg12) = m ((c.tc : Thread Cert.MixKIdeal.nD Cert.MixKIdeal.τ).loc Cert.MixKIdeal.main_arg12)
      ∧ m' ((c.tc : Thread Cert.MixRIdeal.nD Cert.MixRIdeal.τ).loc Cert.MixRIdeal.main_arg13) = m ((c.tc : Thread Cert.MixKIdeal.nD Cert.MixKIdeal.τ).loc Cert.MixKIdeal.main_arg13)
      ∧ m' ((c.tc : Thread Cert.MixRIdeal.nD Cert.MixRIdeal.τ).loc Cert.MixRIdeal.main_arg14) = m ((c.tc : Thread Cert.MixKIdeal.nD Cert.MixKIdeal.τ).loc Cert.MixKIdeal.main_arg14)
      ∧ m' ((c.tc : Thread Cert.MixRIdeal.nD Cert.MixRIdeal.τ).loc Cert.MixRIdeal.main_arg15) = m ((c.tc : Thread Cert.MixKIdeal.nD Cert.MixKIdeal.τ).loc Cert.MixKIdeal.main_arg15)
      ∧ m' ((c.tc : Thread Cert.MixRIdeal.nD Cert.MixRIdeal.τ).loc Cert.MixRIdeal.main_arg16) = m ((c.tc : Thread Cert.MixKIdeal.nD Cert.MixKIdeal.τ).loc Cert.MixKIdeal.main_arg16)
      ∧ m' ((c.tc : Thread Cert.MixRIdeal.nD Cert.MixRIdeal.τ).loc Cert.MixRIdeal.main_arg17) = m ((c.tc : Thread Cert.MixKIdeal.nD Cert.MixKIdeal.τ).loc Cert.MixKIdeal.main_arg17)) →
    ∃ (v0 : (c : Dev Cert.MixKIdeal.nD) → Buf (Elt Ideal) ((c.tc : Thread Cert.MixKIdeal.nD Cert.MixKIdeal.τ).loc Cert.MixKIdeal.main_v26)),
      θ_run (Cert.MixKIdeal.defs (F := Ideal)) (onTc (τ := Cert.MixKIdeal.τ) (Cert.MixKIdeal.main (F := Ideal))) ⟨m, fun _ => 0, g⟩ (fun r => ∀ c : Dev Cert.MixKIdeal.nD,
          r.2.mem ((c.tc : Thread Cert.MixKIdeal.nD Cert.MixKIdeal.τ).loc Cert.MixKIdeal.main_v26) = v0 c
          ∧ r.2.mem ((c.tc : Thread Cert.MixKIdeal.nD Cert.MixKIdeal.τ).loc Cert.MixKIdeal.main_arg0) = m ((c.tc : Thread Cert.MixKIdeal.nD Cert.MixKIdeal.τ).loc Cert.MixKIdeal.main_arg0)
          ∧ r.2.mem ((c.tc : Thread Cert.MixKIdeal.nD Cert.MixKIdeal.τ).loc Cert.MixKIdeal.main_arg1) = m ((c.tc : Thread Cert.MixKIdeal.nD Cert.MixKIdeal.τ).loc Cert.MixKIdeal.main_arg1)
          ∧ r.2.mem ((c.tc : Thread Cert.MixKIdeal.nD Cert.MixKIdeal.τ).loc Cert.MixKIdeal.main_arg2) = m ((c.tc : Thread Cert.MixKIdeal.nD Cert.MixKIdeal.τ).loc Cert.MixKIdeal.main_arg2)
          ∧ r.2.mem ((c.tc : Thread Cert.MixKIdeal.nD Cert.MixKIdeal.τ).loc Cert.MixKIdeal.main_arg3) = m ((c.tc : Thread Cert.MixKIdeal.nD Cert.MixKIdeal.τ).loc Cert.MixKIdeal.main_arg3)
          ∧ r.2.mem ((c.tc : Thread Cert.MixKIdeal.nD Cert.MixKIdeal.τ).loc Cert.MixKIdeal.main_arg4) = m ((c.tc : Thread Cert.MixKIdeal.nD Cert.MixKIdeal.τ).loc Cert.MixKIdeal.main_arg4)
          ∧ r.2.mem ((c.tc : Thread Cert.MixKIdeal.nD Cert.MixKIdeal.τ).loc Cert.MixKIdeal.main_arg5) = m ((c.tc : Thread Cert.MixKIdeal.nD Cert.MixKIdeal.τ).loc Cert.MixKIdeal.main_arg5)
          ∧ r.2.mem ((c.tc : Thread Cert.MixKIdeal.nD Cert.MixKIdeal.τ).loc Cert.MixKIdeal.main_arg6) = m ((c.tc : Thread Cert.MixKIdeal.nD Cert.MixKIdeal.τ).loc Cert.MixKIdeal.main_arg6)
          ∧ r.2.mem ((c.tc : Thread Cert.MixKIdeal.nD Cert.MixKIdeal.τ).loc Cert.MixKIdeal.main_arg7) = m ((c.tc : Thread Cert.MixKIdeal.nD Cert.MixKIdeal.τ).loc Cert.MixKIdeal.main_arg7)
          ∧ r.2.mem ((c.tc : Thread Cert.MixKIdeal.nD Cert.MixKIdeal.τ).loc Cert.MixKIdeal.main_arg8) = m ((c.tc : Thread Cert.MixKIdeal.nD Cert.MixKIdeal.τ).loc Cert.MixKIdeal.main_arg8)
          ∧ r.2.mem ((c.tc : Thread Cert.MixKIdeal.nD Cert.MixKIdeal.τ).loc Cert.MixKIdeal.main_arg9) = m ((c.tc : Thread Cert.MixKIdeal.nD Cert.MixKIdeal.τ).loc Cert.MixKIdeal.main_arg9)
          ∧ r.2.mem ((c.tc : Thread Cert.MixKIdeal.nD Cert.MixKIdeal.τ).loc Cert.MixKIdeal.main_arg10) = m ((c.tc : Thread Cert.MixKIdeal.nD Cert.MixKIdeal.τ).loc Cert.MixKIdeal.main_arg10)
          ∧ r.2.mem ((c.tc : Thread Cert.MixKIdeal.nD Cert.MixKIdeal.τ).loc Cert.MixKIdeal.main_arg11) = m ((c.tc : Thread Cert.MixKIdeal.nD Cert.MixKIdeal.τ).loc Cert.MixKIdeal.main_arg11)
          ∧ r.2.mem ((c.tc : Thread Cert.MixKIdeal.nD Cert.MixKIdeal.τ).loc Cert.MixKIdeal.main_arg12) = m ((c.tc : Thread Cert.MixKIdeal.nD Cert.MixKIdeal.τ).loc Cert.MixKIdeal.main_arg12)
          ∧ r.2.mem ((c.tc : Thread Cert.MixKIdeal.nD Cert.MixKIdeal.τ).loc Cert.MixKIdeal.main_arg13) = m ((c.tc : Thread Cert.MixKIdeal.nD Cert.MixKIdeal.τ).loc Cert.MixKIdeal.main_arg13)
          ∧ r.2.mem ((c.tc : Thread Cert.MixKIdeal.nD Cert.MixKIdeal.τ).loc Cert.MixKIdeal.main_arg14) = m ((c.tc : Thread Cert.MixKIdeal.nD Cert.MixKIdeal.τ).loc Cert.MixKIdeal.main_arg14)
          ∧ r.2.mem ((c.tc : Thread Cert.MixKIdeal.nD Cert.MixKIdeal.τ).loc Cert.MixKIdeal.main_arg15) = m ((c.tc : Thread Cert.MixKIdeal.nD Cert.MixKIdeal.τ).loc Cert.MixKIdeal.main_arg15)
          ∧ r.2.mem ((c.tc : Thread Cert.MixKIdeal.nD Cert.MixKIdeal.τ).loc Cert.MixKIdeal.main_arg16) = m ((c.tc : Thread Cert.MixKIdeal.nD Cert.MixKIdeal.τ).loc Cert.MixKIdeal.main_arg16)
          ∧ r.2.mem ((c.tc : Thread Cert.MixKIdeal.nD Cert.MixKIdeal.τ).loc Cert.MixKIdeal.main_arg17) = m ((c.tc : Thread Cert.MixKIdeal.nD Cert.MixKIdeal.τ).loc Cert.MixKIdeal.main_arg17))
      ∧ θ_run (Cert.MixRIdeal.defs (F := Ideal)) (onTc (τ := Cert.MixRIdeal.τ) (Cert.MixRIdeal.main (F := Ideal))) ⟨m', fun _ => 0, g'⟩ (fun r => ∀ c : Dev Cert.MixRIdeal.nD,
          r.2.mem ((c.tc : Thread Cert.MixRIdeal.nD Cert.MixRIdeal.τ).loc Cert.MixRIdeal.main_v366) = v0 c
          ∧ r.2.mem ((c.tc : Thread Cert.MixRIdeal.nD Cert.MixRIdeal.τ).loc Cert.MixRIdeal.main_arg0) = m' ((c.tc : Thread Cert.MixRIdeal.nD Cert.MixRIdeal.τ).loc Cert.MixRIdeal.main_arg0)
          ∧ r.2.mem ((c.tc : Thread Cert.MixRIdeal.nD Cert.MixRIdeal.τ).loc Cert.MixRIdeal.main_arg1) = m' ((c.tc : Thread Cert.MixRIdeal.nD Cert.MixRIdeal.τ).loc Cert.MixRIdeal.main_arg1)
          ∧ r.2.mem ((c.tc : Thread Cert.MixRIdeal.nD Cert.MixRIdeal.τ).loc Cert.MixRIdeal.main_arg2) = m' ((c.tc : Thread Cert.MixRIdeal.nD Cert.MixRIdeal.τ).loc Cert.MixRIdeal.main_arg2)
          ∧ r.2.mem ((c.tc : Thread Cert.MixRIdeal.nD Cert.MixRIdeal.τ).loc Cert.MixRIdeal.main_arg3) = m' ((c.tc : Thread Cert.MixRIdeal.nD Cert.MixRIdeal.τ).loc Cert.MixRIdeal.main_arg3)
          ∧ r.2.mem ((c.tc : Thread Cert.MixRIdeal.nD Cert.MixRIdeal.τ).loc Cert.MixRIdeal.main_arg4) = m' ((c.tc : Thread Cert.MixRIdeal.nD Cert.MixRIdeal.τ).loc Cert.MixRIdeal.main_arg4)
          ∧ r.2.mem ((c.tc : Thread Cert.MixRIdeal.nD Cert.MixRIdeal.τ).loc Cert.MixRIdeal.main_arg5) = m' ((c.tc : Thread Cert.MixRIdeal.nD Cert.MixRIdeal.τ).loc Cert.MixRIdeal.main_arg5)
          ∧ r.2.mem ((c.tc : Thread Cert.MixRIdeal.nD Cert.MixRIdeal.τ).loc Cert.MixRIdeal.main_arg6) = m' ((c.tc : Thread Cert.MixRIdeal.nD Cert.MixRIdeal.τ).loc Cert.MixRIdeal.main_arg6)
          ∧ r.2.mem ((c.tc : Thread Cert.MixRIdeal.nD Cert.MixRIdeal.τ).loc Cert.MixRIdeal.main_arg7) = m' ((c.tc : Thread Cert.MixRIdeal.nD Cert.MixRIdeal.τ).loc Cert.MixRIdeal.main_arg7)
          ∧ r.2.mem ((c.tc : Thread Cert.MixRIdeal.nD Cert.MixRIdeal.τ).loc Cert.MixRIdeal.main_arg8) = m' ((c.tc : Thread Cert.MixRIdeal.nD Cert.MixRIdeal.τ).loc Cert.MixRIdeal.main_arg8)
          ∧ r.2.mem ((c.tc : Thread Cert.MixRIdeal.nD Cert.MixRIdeal.τ).loc Cert.MixRIdeal.main_arg9) = m' ((c.tc : Thread Cert.MixRIdeal.nD Cert.MixRIdeal.τ).loc Cert.MixRIdeal.main_arg9)
          ∧ r.2.mem ((c.tc : Thread Cert.MixRIdeal.nD Cert.MixRIdeal.τ).loc Cert.MixRIdeal.main_arg10) = m' ((c.tc : Thread Cert.MixRIdeal.nD Cert.MixRIdeal.τ).loc Cert.MixRIdeal.main_arg10)
          ∧ r.2.mem ((c.tc : Thread Cert.MixRIdeal.nD Cert.MixRIdeal.τ).loc Cert.MixRIdeal.main_arg11) = m' ((c.tc : Thread Cert.MixRIdeal.nD Cert.MixRIdeal.τ).loc Cert.MixRIdeal.main_arg11)
          ∧ r.2.mem ((c.tc : Thread Cert.MixRIdeal.nD Cert.MixRIdeal.τ).loc Cert.MixRIdeal.main_arg12) = m' ((c.tc : Thread Cert.MixRIdeal.nD Cert.MixRIdeal.τ).loc Cert.MixRIdeal.main_arg12)
          ∧ r.2.mem ((c.tc : Thread Cert.MixRIdeal.nD Cert.MixRIdeal.τ).loc Cert.MixRIdeal.main_arg13) = m' ((c.tc : Thread Cert.MixRIdeal.nD Cert.MixRIdeal.τ).loc Cert.MixRIdeal.main_arg13)
          ∧ r.2.mem ((c.tc : Thread Cert.MixRIdeal.nD Cert.MixRIdeal.τ).loc Cert.MixRIdeal.main_arg14) = m' ((c.tc : Thread Cert.MixRIdeal.nD Cert.MixRIdeal.τ).loc Cert.MixRIdeal.main_arg14)
          ∧ r.2.mem ((c.tc : Thread Cert.MixRIdeal.nD Cert.MixRIdeal.τ).loc Cert.MixRIdeal.main_arg15) = m' ((c.tc : Thread Cert.MixRIdeal.nD Cert.MixRIdeal.τ).loc Cert.MixRIdeal.main_arg15)
          ∧ r.2.mem ((c.tc : Thread Cert.MixRIdeal.nD Cert.MixRIdeal.τ).loc Cert.MixRIdeal.main_arg16) = m' ((c.tc : Thread Cert.MixRIdeal.nD Cert.MixRIdeal.τ).loc Cert.MixRIdeal.main_arg16)
          ∧ r.2.mem ((c.tc : Thread Cert.MixRIdeal.nD Cert.MixRIdeal.τ).loc Cert.MixRIdeal.main_arg17) = m' ((c.tc : Thread Cert.MixRIdeal.nD Cert.MixRIdeal.τ).loc Cert.MixRIdeal.main_arg17))

def preserves_FwdK_FwdKIdeal : Prop :=
  True

def preserves_BwdK_BwdKIdeal : Prop :=
  True

def Claim : Prop :=
  ∃ (hFfnK : Cert.FfnK.Facts) (hFfnKIdeal : Cert.FfnKIdeal.Facts) (hFfnRIdeal : Cert.FfnRIdeal.Facts) (hMixK : Cert.MixK.Facts) (hMixKIdeal : Cert.MixKIdeal.Facts) (hMixRIdeal : Cert.MixRIdeal.Facts) (hFwdK : Cert.FwdK.Facts) (hFwdKIdeal : Cert.FwdKIdeal.Facts) (hBwdK : Cert.BwdK.Facts) (hBwdKIdeal : Cert.BwdKIdeal.Facts),
    quiescent_FfnK (hFfnK := hFfnK)
    ∧ quiescent_FfnKIdeal (hFfnKIdeal := hFfnKIdeal)
    ∧ quiescent_FfnRIdeal (hFfnRIdeal := hFfnRIdeal)
    ∧ quiescent_MixK (hMixK := hMixK)
    ∧ quiescent_MixKIdeal (hMixKIdeal := hMixKIdeal)
    ∧ quiescent_MixRIdeal (hMixRIdeal := hMixRIdeal)
    ∧ quiescent_FwdK (hFwdK := hFwdK)
    ∧ quiescent_FwdKIdeal (hFwdKIdeal := hFwdKIdeal)
    ∧ quiescent_BwdK (hBwdK := hBwdK)
    ∧ quiescent_BwdKIdeal (hBwdKIdeal := hBwdKIdeal)
    ∧ preserves_FfnK_FfnKIdeal
    ∧ algebraic_FfnKIdeal_FfnRIdeal (hFfnKIdeal := hFfnKIdeal) (hFfnRIdeal := hFfnRIdeal)
    ∧ preserves_MixK_MixKIdeal
    ∧ algebraic_MixKIdeal_MixRIdeal (hMixKIdeal := hMixKIdeal) (hMixRIdeal := hMixRIdeal)
    ∧ preserves_FwdK_FwdKIdeal
    ∧ preserves_BwdK_BwdKIdeal
-- ==== FfnK.lean ====
abbrev S2x16384x1024 : Shape := ⟨3, ![2, 16384, 1024]⟩
abbrev S2x1x6144 : Shape := ⟨3, ![2, 1, 6144]⟩
abbrev S1024 : Shape := ⟨1, ![1024]⟩
abbrev S1024x5632 : Shape := ⟨2, ![1024, 5632]⟩
abbrev S2816x1024 : Shape := ⟨2, ![2816, 1024]⟩
abbrev S2x6x1024 : Shape := ⟨3, ![2, 6, 1024]⟩
abbrev S_ : Shape := ⟨0, ![]⟩
abbrev S2x8x1024 : Shape := ⟨3, ![2, 8, 1024]⟩
abbrev S1x1024 : Shape := ⟨2, ![1, 1024]⟩
abbrev S1x512x1024 : Shape := ⟨3, ![1, 512, 1024]⟩
abbrev S1x8x1024 : Shape := ⟨3, ![1, 8, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 15
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x6x1024, .f32⟩
  | .hbm, ⟨7, _⟩ => ⟨S_, .i32⟩
  | .hbm, ⟨8, _⟩ => ⟨S_, .f32⟩
  | .hbm, ⟨9, _⟩ => ⟨S2x8x1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRIdeal.lean ====
abbrev S2x16384x1024 : Shape := ⟨3, ![2, 16384, 1024]⟩
abbrev S2x1x6144 : Shape := ⟨3, ![2, 1, 6144]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x5632, .f32⟩
  | .hbm, ⟨36, _⟩ => ⟨S2x16384x2816, .f32⟩
  | .hbm, ⟨37, _⟩ => ⟨S2x16384x2816, .f32⟩
  | .hbm, ⟨38, _⟩ => ⟨S2x16384x2816, .f32⟩
  | .hbm, ⟨39, _⟩ => ⟨S2x16384x2816, .f32⟩
  | .hbm, ⟨40, _⟩ => ⟨S_, .f32⟩
  | .hbm, ⟨41, _⟩ => ⟨S2x16384x2816, .f32⟩
  | .hbm, ⟨42, _⟩ => ⟨S2x16384x2816, .f32⟩
  | .hbm, ⟨43, _⟩ => ⟨S_, .f32⟩
  | .hbm, ⟨44, _⟩ => ⟨S2x16384x2816, .f32⟩
  | .hbm, ⟨45, _⟩ => ⟨S2x16384x2816, .f32⟩
  | .hbm, ⟨46, _⟩ => ⟨S2x16384x2816, .f32⟩
  | .hbm, ⟨47, _⟩ => ⟨S2x16384x2816, .f32⟩
  | .hbm, ⟨48, _⟩ => ⟨S2x16384x1024, .f32⟩
  | .hbm, ⟨49, _⟩ => ⟨S2x16384x1024, .f32⟩
  | .hbm, ⟨50, _⟩ => ⟨S2x16384x1024, .f32⟩
  | .hbm, ⟨51, _⟩ => ⟨S2x16384x1024, .f32⟩
  | .hbm, ⟨52, _⟩ => ⟨S2x16384x1024, .f32⟩
  | .hbm, ⟨53, _⟩ => ⟨S_, .f32⟩
  | .hbm, ⟨54, _⟩ => ⟨S2x16384, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S_, .f32⟩
  | .hbm, ⟨60, _⟩ => ⟨S2x16384x1, .f32⟩
  | .hbm, ⟨61, _⟩ => ⟨S2x16384x1, .f32⟩
  | .hbm, ⟨62, _⟩ => ⟨S2x16384x1, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S2x16384x1024, .f32⟩
  | .hbm, ⟨67, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== MixK.lean ====
abbrev S2x16384x1024 : Shape := ⟨3, ![2, 16384, 1024]⟩
abbrev S2x1x6144 : Shape := ⟨3, ![2, 1, 6144]⟩
abbrev S1024 : Shape := ⟨1, ![1024]⟩
abbrev S1024x10272 : Shape := ⟨2, ![1024, 10272]⟩
abbrev S1024x1024 : Shape := ⟨2, ![1024, 1024]⟩
abbrev S31x1024 : Shape := ⟨2, ![31, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1024x2048 : Shape := ⟨2, ![1024, 2048]⟩
abbrev S1024x3072 : Shape := ⟨2, ![1024, 3072]⟩
abbrev S1x1024 : Shape := ⟨2, ![1, 1024]⟩
abbrev S_ : Shape := ⟨0, ![]⟩
abbrev S32x1024 : Shape := ⟨2, ![32, 1024]⟩
abbrev S2x6x1024 : Shape := ⟨3, ![2, 6, 1024]⟩
abbrev S2x8x1024 : Shape := ⟨3, ![2, 8, 1024]⟩
abbrev S1x256x1024 : Shape := ⟨3, ![1, 256, 1024]⟩
abbrev S1x8x1024 : Shape := ⟨3, ![1, 8, 1024]⟩
abbrev S4x96x1024 : Shape := ⟨3, ![4, 96, 1024]⟩
abbrev S256x1024 : Shape := ⟨2, ![256, 1024]⟩
abbrev S256x2048 : Shape := ⟨2, ![256, 2048]⟩
abbrev S256x3072 : Shape := ⟨2, ![256, 3072]⟩
abbrev S1x1x1024 : Shape := ⟨3, ![1, 1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S16x256 : Shape := ⟨2, ![16, 256]⟩
abbrev S1x16x256 : Shape := ⟨3, ![1, 16, 256]⟩
abbrev S64x256 : Shape := ⟨2, ![64, 256]⟩
abbrev S1x64x256 : Shape := ⟨3, ![1, 64, 256]⟩
abbrev S1x128 : Shape := ⟨2, ![1, 128]⟩
abbrev S1x72x128 : Shape := ⟨3, ![1, 72, 128]⟩
abbrev S72x128 : Shape := ⟨2, ![72, 128]⟩
abbrev S64x128 : Shape := ⟨2, ![64, 128]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S128x256 : Shape := ⟨2, ![128, 256]⟩
abbrev S1x256x256 : Shape := ⟨3, ![1, 256, 256]⟩
abbrev S1x1x256 : Shape := ⟨3, ![1, 1, 256]⟩
abbrev S1x256 : Shape := ⟨2, ![1, 256]⟩

abbrev nBuf : Space → Nat
  | .hbm => 49
  | .vmem => 41
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x1x6144, .f32⟩
  | .hbm, ⟨3, _⟩ => ⟨S1024, .f32⟩
  | .hbm, ⟨4, _⟩ => ⟨S1024x10272, .f32⟩
  | .hbm, ⟨5, _⟩ => ⟨S1024, .f32⟩
  | .hbm, ⟨6, _⟩ => ⟨S1024x1024, .f32⟩
  | .hbm, ⟨7, _⟩ => ⟨S31x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S8x128x128, .f32⟩
  | .hbm, ⟨15, _⟩ => ⟨S8x128, .f32⟩
  | .hbm, ⟨16, _⟩ => ⟨S1024x1024, .f32⟩
  | .hbm, ⟨17, _⟩ => ⟨S1024x1024, .f32⟩
  | .hbm, ⟨18, _⟩ => ⟨S128x8, .f32⟩
  | .hbm, ⟨19, _⟩ => ⟨S128x8x128, .f32⟩
  | .hbm, ⟨20, _⟩ => ⟨S128x1024, .f32⟩
  | .hbm, ⟨21, _⟩ => ⟨S1024x1024, .f32⟩
  | .hbm, ⟨22, _⟩ => ⟨S1024x1024, .bf16⟩
  | .hbm, ⟨23, _⟩ => ⟨S1024x2048, .f32⟩
  | .hbm, ⟨24, _⟩ => ⟨S1024x2048, .bf16⟩
  | .hbm, ⟨25, _⟩ => ⟨S1024x2048, .f32⟩
  | .hbm, ⟨26, _⟩ => ⟨S1024x2048, .bf16⟩
  | .hbm, ⟨27, _⟩ => ⟨S1024x3072, .f32⟩
  | .hbm, ⟨28, _⟩ => ⟨S1024x3072, .bf16⟩
  | .hbm, ⟨29, _⟩ => ⟨S1x1024, .f32⟩
  | .hbm, ⟨30, _⟩ => ⟨S1024x1024, .bf16⟩
  | .hbm, ⟨31, _⟩ => ⟨S_, .i32⟩
  | .hbm, ⟨32, _⟩ => ⟨S_, .f32⟩
  | .hbm, ⟨33, _⟩ => ⟨S32x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S8x128x128, .bf16⟩
  | .hbm, ⟨41, _⟩ => ⟨S1024x1024, .bf16⟩
  | .hbm, ⟨42, _⟩ => ⟨S1024x1024, .bf16⟩
  | .hbm, ⟨43, _⟩ => ⟨S2x6x1024, .f32⟩
  | .hbm, ⟨44, _⟩ => ⟨S_, .i32⟩
  | .hbm, ⟨45, _⟩ => ⟨S_, .f32⟩
  | .hbm, ⟨46, _⟩ => ⟨S2x8x1024, .f32⟩
  | .hbm, ⟨47, _⟩ => ⟨S1x1024, .f32⟩
  | .hbm, ⟨48, _⟩ => ⟨S2x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x3072, .bf16⟩
  | .local _ .vmem, ⟨11, _⟩ => ⟨S1x1024, .f32⟩
  | .local _ .vmem, ⟨12, _⟩ => ⟨S1024x1024, .bf16⟩
  | .local _ .vmem, ⟨13, _⟩ => ⟨S32x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S8x128x128, .bf16⟩
  | .local _ .vmem, ⟨21, _⟩ => ⟨S128x1024, .f32⟩
  | .local _ .vmem, ⟨22, _⟩ => ⟨S1024x1024, .bf16⟩
  | .local _ .vmem, ⟨23, _⟩ => ⟨S1024x1024, .bf16⟩
  | .local _ .vmem, ⟨24, _⟩ => ⟨S1x256x1024, .f32⟩
  | .local _ .vmem, ⟨25, _⟩ => ⟨S1x256x1024, .f32⟩
  | .local _ .vmem, ⟨26, _⟩ => ⟨S4x96x1024, .f32⟩
  | .local _ .vmem, ⟨27, _⟩ => ⟨S256x1024, .f32⟩
  | .local _ .vmem, ⟨28, _⟩ => ⟨S256x2048, .f32⟩
  | .local _ .vmem, ⟨29, _⟩ => ⟨S256x1024, .f32⟩
  | .local _ .vmem, ⟨30, _⟩ => ⟨S256x2048, .f32⟩
  | .local _ .vmem, ⟨31, _⟩ => ⟨S256x3072, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_0 : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_scratch10 : Ref sig .tc := ⟨.vmem, 36, rfl⟩
abbrev cc0_scratch11 : Ref sig .tc := ⟨.vmem, 37, rfl⟩
abbrev cc0_scratch12 : Ref sig .tc := ⟨.vmem, 38, rfl⟩
abbrev cc0_scratch13 : Ref sig .tc := ⟨.vmem, 39, rfl⟩
abbrev cc0_scratch14 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== MixRIdeal.lean ====
abbrev S2x16384x1024 : Shape := ⟨3, ![2, 16384, 1024]⟩
abbrev S2x1x6144 : Shape := ⟨3, ![2, 1, 6144]⟩
abbrev S1024 : Shape := ⟨1, ![1024]⟩
abbrev S1024x10272 : Shape := ⟨2, ![1024, 10272]⟩
abbrev S1024x1024 : Shape := ⟨2, ![1024, 1024]⟩
abbrev S31x1024 : Shape := ⟨2, ![31, 1024]⟩
abbrev S8x128x128 : Shape := ⟨3, ![8, 128, 128]⟩
abbrev S8x128 : Shape := ⟨2, ![8, 128]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x10272 : Shape := ⟨3, ![2, 16384, 10272]⟩
abbrev S2x16384x512 : Shape := ⟨3, ![2, 16384, 512]⟩
abbrev S2x16384x32 : Shape := ⟨3, ![2, 16384, 32]⟩
abbrev S2x16384x2048 : Shape := ⟨3, ![2, 16384, 2048]⟩
abbrev S2x16384x3072 : Shape := ⟨3, ![2, 16384, 3072]⟩
abbrev S512x64x1024 : Shape := ⟨3, ![512, 64, 1024]⟩
abbrev S512x94x1024 : Shape := ⟨3, ![512, 94, 1024]⟩
abbrev S1x1024 : Shape := ⟨2, ![1, 1024]⟩
abbrev S2x128x128x8x128 : Shape := ⟨5, ![2, 128, 128, 8, 128]⟩
abbrev S8x2x128x128x128 : Shape := ⟨5, ![8, 2, 128, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2x16384x3x1024 : Shape := ⟨4, ![2, 16384, 3, 1024]⟩
abbrev S2x16384x1x1024 : Shape := ⟨4, ![2, 16384, 1, 1024]⟩

abbrev nBuf : Space → Nat
  | .hbm => 426
  | .vmem => 0
  | .smem => 0
  | _ => 0

abbrev hbmTy0_0 (i : Nat) : BufTy := match i % 128 with
  | 0 => ⟨S2x16384x1024, .f32⟩
  | 1 => ⟨S2x16384x1024, .f32⟩
  | 2 => ⟨S2x1x6144, .f32⟩
  | 3 => ⟨S1024, .f32⟩
  | 4 => ⟨S1024x10272, .f32⟩
  | 5 => ⟨S1024, .f32⟩
  | 6 => ⟨S1024x1024, .f32⟩
  | 7 => ⟨S31x1024, .f32⟩
  | 8 => ⟨S1024, .f32⟩
  | 9 => ⟨S1024, .f32⟩
  | 10 => ⟨S1024, .f32⟩
  | 11 => ⟨S1024x1024, .f32⟩
  | 12 => ⟨S1024, .f32⟩
  | 13 => ⟨S1024, .f32⟩
  | 14 => ⟨S8x128x128, .f32⟩
  | 15 => ⟨S8x128, .f32⟩
  | 16 => ⟨S1024x1024, .f32⟩
  | 17 => ⟨S1024x1024, .f32⟩
  | 18 => ⟨S2x1x1024, .f32⟩
  | 19 => ⟨S2x1x1024, .f32⟩
  | 20 => ⟨S2x1x1024, .f32⟩
  | 21 => ⟨S2x1x1024, .f32⟩
  | 22 => ⟨S2x1x1024, .f32⟩
  | 23 => ⟨S2x1x1024, .f32⟩
  | 24 => ⟨S2x16384x1024, .f32⟩
  | 25 => ⟨S_, .f32⟩
  | 26 => ⟨S2x16384, .f32⟩
  | 27 => ⟨S2x16384x1, .f32⟩
  | 28 => ⟨S_, .f32⟩
  | 29 => ⟨S2x16384x1, .f32⟩
  | 30 => ⟨S2x16384x1, .f32⟩
  | 31 => ⟨S_, .f32⟩
  | 32 => ⟨S2x16384x1, .f32⟩
  | 33 => ⟨S2x16384x1, .f32⟩
  | 34 => ⟨S2x16384x1, .f32⟩
  | 35 => ⟨S2x16384x1024, .f32⟩
  | 36 => ⟨S2x16384x1024, .f32⟩
  | 37 => ⟨S1x1x1024, .f32⟩
  | 38 => ⟨S2x16384x1024, .f32⟩
  | 39 => ⟨S2x16384x1024, .f32⟩
  | 40 => ⟨S_, .f32⟩
  | 41 => ⟨S2x1x1024, .f32⟩
  | 42 => ⟨S2x1x1024, .f32⟩
  | 43 => ⟨S2x16384x1024, .f32⟩
  | 44 => ⟨S2x16384x1024, .f32⟩
  | 45 => ⟨S2x16384x1024, .f32⟩
  | 46 => ⟨S2x16384x1024, .f32⟩
  | 47 => ⟨S2x16384x10272, .f32⟩
  | 48 => ⟨S2x16384x512, .f32⟩
  | 49 => ⟨S2x16384x512, .f32⟩
  | 50 => ⟨S2x16384x1024, .f32⟩
  | 51 => ⟨S2x16384x32, .f32⟩
  | 52 => ⟨S2x16384x1024, .f32⟩
  | 53 => ⟨S2x16384x2048, .f32⟩
  | 54 => ⟨S2x16384x2048, .f32⟩
  | 55 => ⟨S2x16384x3072, .f32⟩
  | 56 => ⟨S1x1x1024, .f32⟩
  | 57 => ⟨S2x16384x1024, .f32⟩
  | 58 => ⟨S2x16384x1024, .f32⟩
  | 59 => ⟨S2x16384x1024, .f32⟩
  | 60 => ⟨S2x16384x1024, .f32⟩
  | 61 => ⟨S_, .f32⟩
  | 62 => ⟨S2x16384x1024, .f32⟩
  | 63 => ⟨S2x16384x1024, .f32⟩
  | 64 => ⟨S_, .f32⟩
  | 65 => ⟨S2x16384x1024, .f32⟩
  | 66 => ⟨S2x16384x1024, .f32⟩
  | 67 => ⟨S2x16384x1024, .f32⟩
  | 68 => ⟨S2x16384x1024, .f32⟩
  | 69 => ⟨S2x16384x1024, .f32⟩
  | 70 => ⟨S2x16384x1024, .f32⟩
  | 71 => ⟨S2x16384x1024, .f32⟩
  | 72 => ⟨S2x16384x1024, .f32⟩
  | 73 => ⟨S2x16384x1024, .f32⟩
  | 74 => ⟨S_, .f32⟩
  | 75 => ⟨S2x16384x1024, .f32⟩
  | 76 => ⟨S2x16384x1024, .f32⟩
  | 77 => ⟨S_, .f32⟩
  | 78 => ⟨S2x16384x1024, .f32⟩
  | 79 => ⟨S2x16384x1024, .f32⟩
  | 80 => ⟨S2x16384x1024, .f32⟩
  | 81 => ⟨S512x64x1024, .f32⟩
  | 82 => ⟨S_, .i32⟩
  | 83 => ⟨S_, .f32⟩
  | 84 => ⟨S512x94x1024, .f32⟩
  | 85 => ⟨S512x64x1024, .f32⟩
  | 86 => ⟨S1x1024, .f32⟩
  | 87 => ⟨S1024, .f32⟩
  | 88 => ⟨S1x1x1024, .f32⟩
  | 89 => ⟨S512x64x1024, .f32⟩
  | 90 => ⟨S512x64x1024, .f32⟩
  | 91 => ⟨S_, .f32⟩
  | 92 => ⟨S512x64x1024, .f32⟩
  | 93 => ⟨S512x64x1024, .f32⟩
  | 94 => ⟨S512x64x1024, .f32⟩
  | 95 => ⟨S1x1024, .f32⟩
  | 96 => ⟨S1024, .f32⟩
  | 97 => ⟨S1x1x1024, .f32⟩
  | 98 => ⟨S512x64x1024, .f32⟩
  | 99 => ⟨S512x64x1024, .f32⟩
  | 100 => ⟨S512x64x1024, .f32⟩
  | 101 => ⟨S512x64x1024, .f32⟩
  | 102 => ⟨S1x1024, .f32⟩
  | 103 => ⟨S1024, .f32⟩
  | 104 => ⟨S1x1x1024, .f32⟩
  | 105 => ⟨S512x64x1024, .f32⟩
  | 106 => ⟨S512x64x1024, .f32⟩
  | 107 => ⟨S512x64x1024, .f32⟩
  | 108 => ⟨S512x64x1024, .f32⟩
  | 109 => ⟨S1x1024, .f32⟩
  | 110 => ⟨S1024, .f32⟩
  | 111 => ⟨S1x1x1024, .f32⟩
  | 112 => ⟨S512x64x1024, .f32⟩
  | 113 => ⟨S512x64x1024, .f32⟩
  | 114 => ⟨S512x64x1024, .f32⟩
  | 115 => ⟨S512x64x1024, .f32⟩
  | 116 => ⟨S1x1024, .f32⟩
  | 117 => ⟨S1024, .f32⟩
  | 118 => ⟨S1x1x1024, .f32⟩
  | 119 => ⟨S512x64x1024, .f32⟩
  | 120 => ⟨S512x64x1024, .f32⟩
  | 121 => ⟨S512x64x1024, .f32⟩
  | 122 => ⟨S512x64x1024, .f32⟩
  | 123 => ⟨S1x1024, .f32⟩
  | 124 => ⟨S1024, .f32⟩
  | 125 => ⟨S1x1x1024, .f32⟩
  | 126 => ⟨S512x64x1024, .f32⟩
  | 127 => ⟨S512x64x1024, .f32⟩
  | _ => ⟨S2x16384x1024, .f32⟩

abbrev hbmTy0_1 (i : Nat) : BufTy := match i % 128 with
  | 0 => ⟨S512x64x1024, .f32⟩
  | 1 => ⟨S512x64x1024, .f32⟩
  | 2 => ⟨S1x1024, .f32⟩
  | 3 => ⟨S1024, .f32⟩
  | 4 => ⟨S1x1x1024, .f32⟩
  | 5 => ⟨S512x64x1024, .f32⟩
  | 6 => ⟨S512x64x1024, .f32⟩
  | 7 => ⟨S512x64x1024, .f32⟩
  | 8 => ⟨S512x64x1024, .f32⟩
  | 9 => ⟨S1x1024, .f32⟩
  | 10 => ⟨S1024, .f32⟩
  | 11 => ⟨S1x1x1024, .f32⟩
  | 12 => ⟨S512x64x1024, .f32⟩
  | 13 => ⟨S512x64x1024, .f32⟩
  | 14 => ⟨S512x64x1024, .f32⟩
  | 15 => ⟨S512x64x1024, .f32⟩
  | 16 => ⟨S1x1024, .f32⟩
  | 17 => ⟨S1024, .f32⟩
  | 18 => ⟨S1x1x1024, .f32⟩
  | 19 => ⟨S512x64x1024, .f32⟩
  | 20 => ⟨S512x64x1024, .f32⟩
  | 21 => ⟨S512x64x1024, .f32⟩
  | 22 => ⟨S512x64x1024, .f32⟩
  | 23 => ⟨S1x1024, .f32⟩
  | 24 => ⟨S1024, .f32⟩
  | 25 => ⟨S1x1x1024, .f32⟩
  | 26 => ⟨S512x64x1024, .f32⟩
  | 27 => ⟨S512x64x1024, .f32⟩
  | 28 => ⟨S512x64x1024, .f32⟩
  | 29 => ⟨S512x64x1024, .f32⟩
  | 30 => ⟨S1x1024, .f32⟩
  | 31 => ⟨S1024, .f32⟩
  | 32 => ⟨S1x1x1024, .f32⟩
  | 33 => ⟨S512x64x1024, .f32⟩
  | 34 => ⟨S512x64x1024, .f32⟩
  | 35 => ⟨S512x64x1024, .f32⟩
  | 36 => ⟨S512x64x1024, .f32⟩
  | 37 => ⟨S1x1024, .f32⟩
  | 38 => ⟨S1024, .f32⟩
  | 39 => ⟨S1x1x1024, .f32⟩
  | 40 => ⟨S512x64x1024, .f32⟩
  | 41 => ⟨S512x64x1024, .f32⟩
  | 42 => ⟨S512x64x1024, .f32⟩
  | 43 => ⟨S512x64x1024, .f32⟩
  | 44 => ⟨S1x1024, .f32⟩
  | 45 => ⟨S1024, .f32⟩
  | 46 => ⟨S1x1x1024, .f32⟩
  | 47 => ⟨S512x64x1024, .f32⟩
  | 48 => ⟨S512x64x1024, .f32⟩
  | 49 => ⟨S512x64x1024, .f32⟩
  | 50 => ⟨S512x64x1024, .f32⟩
  | 51 => ⟨S1x1024, .f32⟩
  | 52 => ⟨S1024, .f32⟩
  | 53 => ⟨S1x1x1024, .f32⟩
  | 54 => ⟨S512x64x1024, .f32⟩
  | 55 => ⟨S512x64x1024, .f32⟩
  | 56 => ⟨S512x64x1024, .f32⟩
  | 57 => ⟨S512x64x1024, .f32⟩
  | 58 => ⟨S1x1024, .f32⟩
  | 59 => ⟨S1024, .f32⟩
  | 60 => ⟨S1x1x1024, .f32⟩
  | 61 => ⟨S512x64x1024, .f32⟩
  | 62 => ⟨S512x64x1024, .f32⟩
  | 63 => ⟨S512x64x1024, .f32⟩
  | 64 => ⟨S512x64x1024, .f32⟩
  | 65 => ⟨S1x1024, .f32⟩
  | 66 => ⟨S1024, .f32⟩
  | 67 => ⟨S1x1x1024, .f32⟩
  | 68 => ⟨S512x64x1024, .f32⟩
  | 69 => ⟨S512x64x1024, .f32⟩
  | 70 => ⟨S512x64x1024, .f32⟩
  | 71 => ⟨S512x64x1024, .f32⟩
  | 72 => ⟨S1x1024, .f32⟩
  | 73 => ⟨S1024, .f32⟩
  | 74 => ⟨S1x1x1024, .f32⟩
  | 75 => ⟨S512x64x1024, .f32⟩
  | 76 => ⟨S512x64x1024, .f32⟩
  | 77 => ⟨S512x64x1024, .f32⟩
  | 78 => ⟨S512x64x1024, .f32⟩
  | 79 => ⟨S1x1024, .f32⟩
  | 80 => ⟨S1024, .f32⟩
  | 81 => ⟨S1x1x1024, .f32⟩
  | 82 => ⟨S512x64x1024, .f32⟩
  | 83 => ⟨S512x64x1024, .f32⟩
  | 84 => ⟨S512x64x1024, .f32⟩
  | 85 => ⟨S512x64x1024, .f32⟩
  | 86 => ⟨S1x1024, .f32⟩
  | 87 => ⟨S1024, .f32⟩
  | 88 => ⟨S1x1x1024, .f32⟩
  | 89 => ⟨S512x64x1024, .f32⟩
  | 90 => ⟨S512x64x1024, .f32⟩
  | 91 => ⟨S512x64x1024, .f32⟩
  | 92 => ⟨S512x64x1024, .f32⟩
  | 93 => ⟨S1x1024, .f32⟩
  | 94 => ⟨S1024, .f32⟩
  | 95 => ⟨S1x1x1024, .f32⟩
  | 96 => ⟨S512x64x1024, .f32⟩
  | 97 => ⟨S512x64x1024, .f32⟩
  | 98 => ⟨S512x64x1024, .f32⟩
  | 99 => ⟨S512x64x1024, .f32⟩
  | 100 => ⟨S1x1024, .f32⟩
  | 101 => ⟨S1024, .f32⟩
  | 102 => ⟨S1x1x1024, .f32⟩
  | 103 => ⟨S512x64x1024, .f32⟩
  | 104 => ⟨S512x64x1024, .f32⟩
  | 105 => ⟨S512x64x1024, .f32⟩
  | 106 => ⟨S512x64x1024, .f32⟩
  | 107 => ⟨S1x1024, .f32⟩
  | 108 => ⟨S1024, .f32⟩
  | 109 => ⟨S1x1x1024, .f32⟩
  | 110 => ⟨S512x64x1024, .f32⟩
  | 111 => ⟨S512x64x1024, .f32⟩
  | 112 => ⟨S512x64x1024, .f32⟩
  | 113 => ⟨S512x64x1024, .f32⟩
  | 114 => ⟨S1x1024, .f32⟩
  | 115 => ⟨S1024, .f32⟩
  | 116 => ⟨S1x1x1024, .f32⟩
  | 117 => ⟨S512x64x1024, .f32⟩
  | 118 => ⟨S512x64x1024, .f32⟩
  | 119 => ⟨S512x64x1024, .f32⟩
  | 120 => ⟨S512x64x1024, .f32⟩
  | 121 => ⟨S1x1024, .f32⟩
  | 122 => ⟨S1024, .f32⟩
  | 123 => ⟨S1x1x1024, .f32⟩
  | 124 => ⟨S512x64x1024, .f32⟩
  | 125 => ⟨S512x64x1024, .f32⟩
  | 126 => ⟨S512x64x1024, .f32⟩
  | 127 => ⟨S512x64x1024, .f32⟩
  | _ => ⟨S2x16384x1024, .f32⟩

abbrev hbmTy0_2 (i : Nat) : BufTy := match i % 128 with
  | 0 => ⟨S1x1024, .f32⟩
  | 1 => ⟨S1024, .f32⟩
  | 2 => ⟨S1x1x1024, .f32⟩
  | 3 => ⟨S512x64x1024, .f32⟩
  | 4 => ⟨S512x64x1024, .f32⟩
  | 5 => ⟨S512x64x1024, .f32⟩
  | 6 => ⟨S512x64x1024, .f32⟩
  | 7 => ⟨S1x1024, .f32⟩
  | 8 => ⟨S1024, .f32⟩
  | 9 => ⟨S1x1x1024, .f32⟩
  | 10 => ⟨S512x64x1024, .f32⟩
  | 11 => ⟨S512x64x1024, .f32⟩
  | 12 => ⟨S512x64x1024, .f32⟩
  | 13 => ⟨S512x64x1024, .f32⟩
  | 14 => ⟨S1x1024, .f32⟩
  | 15 => ⟨S1024, .f32⟩
  | 16 => ⟨S1x1x1024, .f32⟩
  | 17 => ⟨S512x64x1024, .f32⟩
  | 18 => ⟨S512x64x1024, .f32⟩
  | 19 => ⟨S512x64x1024, .f32⟩
  | 20 => ⟨S512x64x1024, .f32⟩
  | 21 => ⟨S1x1024, .f32⟩
  | 22 => ⟨S1024, .f32⟩
  | 23 => ⟨S1x1x1024, .f32⟩
  | 24 => ⟨S512x64x1024, .f32⟩
  | 25 => ⟨S512x64x1024, .f32⟩
  | 26 => ⟨S512x64x1024, .f32⟩
  | 27 => ⟨S512x64x1024, .f32⟩
  | 28 => ⟨S1x1024, .f32⟩
  | 29 => ⟨S1024, .f32⟩
  | 30 => ⟨S1x1x1024, .f32⟩
  | 31 => ⟨S512x64x1024, .f32⟩
  | 32 => ⟨S512x64x1024, .f32⟩
  | 33 => ⟨S512x64x1024, .f32⟩
  | 34 => ⟨S512x64x1024, .f32⟩
  | 35 => ⟨S1x1024, .f32⟩
  | 36 => ⟨S1024, .f32⟩
  | 37 => ⟨S1x1x1024, .f32⟩
  | 38 => ⟨S512x64x1024, .f32⟩
  | 39 => ⟨S512x64x1024, .f32⟩
  | 40 => ⟨S512x64x1024, .f32⟩
  | 41 => ⟨S512x64x1024, .f32⟩
  | 42 => ⟨S1x1024, .f32⟩
  | 43 => ⟨S1024, .f32⟩
  | 44 => ⟨S1x1x1024, .f32⟩
  | 45 => ⟨S512x64x1024, .f32⟩
  | 46 => ⟨S512x64x1024, .f32⟩
  | 47 => ⟨S512x64x1024, .f32⟩
  | 48 => ⟨S1x1x1024, .f32⟩
  | 49 => ⟨S512x64x1024, .f32⟩
  | 50 => ⟨S512x64x1024, .f32⟩
  | 51 => ⟨S2x16384x1024, .f32⟩
  | 52 => ⟨S_, .f32⟩
  | 53 => ⟨S2x16384, .f32⟩
  | 54 => ⟨S2x16384x1, .f32⟩
  | 55 => ⟨S_, .f32⟩
  | 56 => ⟨S2x16384x1, .f32⟩
  | 57 => ⟨S2x16384x1, .f32⟩
  | 58 => ⟨S2x16384x1024, .f32⟩
  | 59 => ⟨S2x16384x1024, .f32⟩
  | 60 => ⟨S2x16384x1024, .f32⟩
  | 61 => ⟨S_, .f32⟩
  | 62 => ⟨S2x16384, .f32⟩
  | 63 => ⟨S2x16384x1, .f32⟩
  | 64 => ⟨S_, .f32⟩
  | 65 => ⟨S2x16384x1, .f32⟩
  | 66 => ⟨S2x16384x1, .f32⟩
  | 67 => ⟨S_, .f32⟩
  | 68 => ⟨S2x16384x1, .f32⟩
  | 69 => ⟨S2x16384x1, .f32⟩
  | 70 => ⟨S2x16384x1, .f32⟩
  | 71 => ⟨S2x16384x1024, .f32⟩
  | 72 => ⟨S2x16384x1024, .f32⟩
  | 73 => ⟨S1x1x1024, .f32⟩
  | 74 => ⟨S2x16384x1024, .f32⟩
  | 75 => ⟨S2x16384x1024, .f32⟩
  | 76 => ⟨S1x1x1024, .f32⟩
  | 77 => ⟨S2x16384x1024, .f32⟩
  | 78 => ⟨S2x16384x1024, .f32⟩
  | 79 => ⟨S2x16384x1024, .f32⟩
  | 80 => ⟨S2x16384x1024, .f32⟩
  | 81 => ⟨S_, .f32⟩
  | 82 => ⟨S2x16384x1024, .f32⟩
  | 83 => ⟨S2x16384x1024, .f32⟩
  | 84 => ⟨S_, .f32⟩
  | 85 => ⟨S2x16384x1024, .f32⟩
  | 86 => ⟨S2x16384x1024, .f32⟩
  | 87 => ⟨S2x16384x1024, .f32⟩
  | 88 => ⟨S2x16384x1024, .f32⟩
  | 89 => ⟨S2x16384x2048, .f32⟩
  | 90 => ⟨S2x16384x2048, .f32⟩
  | 91 => ⟨S_, .f32⟩
  | 92 => ⟨S2x16384x2048, .f32⟩
  | 93 => ⟨S2x16384x2048, .f32⟩
  | 94 => ⟨S2x16384x2048, .f32⟩
  | 95 => ⟨S_, .f32⟩
  | 96 => ⟨S2x16384x2048, .f32⟩
  | 97 => ⟨S2x16384x2048, .f32⟩
  | 98 => ⟨S2x16384x2048, .f32⟩
  | 99 => ⟨S_, .f32⟩
  | 100 => ⟨S2x16384x2048, .f32⟩
  | 101 => ⟨S2x16384x2048, .f32⟩
  | 102 => ⟨S_, .f32⟩
  | 103 => ⟨S2x16384x2048, .f32⟩
  | 104 => ⟨S2x16384x2048, .f32⟩
  | 105 => ⟨S2x16384x2048, .f32⟩
  | 106 => ⟨S2x16384x1024, .f32⟩
  | 107 => ⟨S2x16384x1024, .f32⟩
  | 108 => ⟨S_, .f32⟩
  | 109 => ⟨S2x16384, .f32⟩
  | 110 => ⟨S2x16384x1, .f32⟩
  | 111 => ⟨S_, .f32⟩
  | 112 => ⟨S2x16384x1, .f32⟩
  | 113 => ⟨S2x16384x1, .f32⟩
  | 114 => ⟨S2x16384x1024, .f32⟩
  | 115 => ⟨S2x16384x1024, .f32⟩
  | 116 => ⟨S2x16384x1024, .f32⟩
  | 117 => ⟨S_, .f32⟩
  | 118 => ⟨S2x16384, .f32⟩
  | 119 => ⟨S2x16384x1, .f32⟩
  | 120 => ⟨S_, .f32⟩
  | 121 => ⟨S2x16384x1, .f32⟩
  | 122 => ⟨S2x16384x1, .f32⟩
  | 123 => ⟨S_, .f32⟩
  | 124 => ⟨S2x16384x1, .f32⟩
  | 125 => ⟨S2x16384x1, .f32⟩
  | 126 => ⟨S2x16384x1, .f32⟩
  | 127 => ⟨S2x16384x1024, .f32⟩
  | _ => ⟨S2x16384x1024, .f32⟩

abbrev hbmTy0_3 (i : Nat) : BufTy := match i % 128 with
  | 0 => ⟨S2x16384x1024, .f32⟩
  | 1 => ⟨S1x1x1024, .f32⟩
  | 2 => ⟨S2x16384x1024, .f32⟩
  | 3 => ⟨S2x16384x1024, .f32⟩
  | 4 => ⟨S1x1x1024, .f32⟩
  | 5 => ⟨S2x16384x1024, .f32⟩
  | 6 => ⟨S2x16384x1024, .f32⟩
  | 7 => ⟨S2x128x128x8x128, .f32⟩
  | 8 => ⟨S8x2x128x128x128, .f32⟩
  | 9 => ⟨S2x128x128x8x128, .f32⟩
  | 10 => ⟨S128x8, .f32⟩
  | 11 => ⟨S128x8x1, .f32⟩
  | 12 => ⟨S1x1x128x8x1, .f32⟩
  | 13 => ⟨S2x128x128x8x128, .f32⟩
  | 14 => ⟨S2x128x128x8x128, .f32⟩
  | 15 => ⟨S2x16384x1024, .f32⟩
  | 16 => ⟨S2x16384x1024, .f32⟩
  | 17 => ⟨S2x16384x1024, .f32⟩
  | 18 => ⟨S2x16384x3072, .f32⟩
  | 19 => ⟨S2x16384x3072, .f32⟩
  | 20 => ⟨S_, .f32⟩
  | 21 => ⟨S2x16384x3072, .f32⟩
  | 22 => ⟨S2x16384x3072, .f32⟩
  | 23 => ⟨S_, .f32⟩
  | 24 => ⟨S2x16384x3072, .f32⟩
  | 25 => ⟨S2x16384x3072, .f32⟩
  | 26 => ⟨S2x16384x3x1024, .f32⟩
  | 27 => ⟨S2x16384x1x1024, .f32⟩
  | 28 => ⟨S2x16384x1024, .f32⟩
  | 29 => ⟨S2x16384x1024, .f32⟩
  | 30 => ⟨S2x16384x1x1024, .f32⟩
  | 31 => ⟨S2x16384x1024, .f32⟩
  | 32 => ⟨S2x16384x1024, .f32⟩
  | 33 => ⟨S2x16384x1024, .f32⟩
  | 34 => ⟨S2x16384x1x1024, .f32⟩
  | 35 => ⟨S2x16384x1024, .f32⟩
  | 36 => ⟨S2x16384x1024, .f32⟩
  | 37 => ⟨S2x16384x1024, .f32⟩
  | 38 => ⟨S2x16384x1024, .f32⟩
  | 39 => ⟨S2x16384x1024, .f32⟩
  | 40 => ⟨S2x16384x1024, .f32⟩
  | 41 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | 3 => hbmTy0_3 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_v44 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c : Ref sig .tc := ⟨.hbm, 82, rfl⟩
abbrev main_call1_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_5 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_v270 : Ref sig .tc := ⟨.hbm, 305, rfl⟩
abbrev main_v271 : Ref sig .tc := ⟨.hbm, 306, rfl⟩
abbrev main_v272 : Ref sig .tc := ⟨.hbm, 307, rfl⟩
abbrev main_cst_6 : Ref sig .tc := ⟨.hbm, 308, rfl⟩
abbrev main_v273 : Ref sig .tc := ⟨.hbm, 309, rfl⟩
abbrev main_v274 : Ref sig .tc := ⟨.hbm, 310, rfl⟩
abbrev main_cst_7 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_cst_8 : Ref sig .tc := ⟨.hbm, 317, rfl⟩
abbrev main_v280 : Ref sig .tc := ⟨.hbm, 318, rfl⟩
abbrev main_v281 : Ref sig .tc := ⟨.hbm, 319, rfl⟩
abbrev main_cst_9 : Ref sig .tc := ⟨.hbm, 320, rfl⟩
abbrev main_v282 : Ref sig .tc := ⟨.hbm, 321, rfl⟩
abbrev main_v283 : Ref sig .tc := ⟨.hbm, 322, rfl⟩
abbrev main_cst_10 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_call2_v0 : Ref sig .tc := ⟨.hbm, 335, rfl⟩
abbrev main_call2_v1 : Ref sig .tc := ⟨.hbm, 336, rfl⟩
abbrev main_call2_cst : Ref sig .tc := ⟨.hbm, 337, rfl⟩
abbrev main_call2_v2 : Ref sig .tc := ⟨.hbm, 338, rfl⟩
abbrev main_call2_v3 : Ref sig .tc := ⟨.hbm, 339, rfl⟩
abbrev main_call2_cst_0 : Ref sig .tc := ⟨.hbm, 340, rfl⟩
abbrev main_call2_v4 : Ref sig .tc := ⟨.hbm, 341, rfl⟩
abbrev main_call2_v5 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_cst_11 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_cst_12 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_cst_13 : Ref sig .tc := ⟨.hbm, 355, rfl⟩
abbrev main_v305 : Ref sig .tc := ⟨.hbm, 356, rfl⟩
abbrev main_v306 : Ref sig .tc := ⟨.hbm, 357, rfl⟩
abbrev main_cst_14 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_cst_15 : Ref sig .tc := ⟨.hbm, 364, rfl⟩
abbrev main_v312 : Ref sig .tc := ⟨.hbm, 365, rfl⟩
abbrev main_v313 : Ref sig .tc := ⟨.hbm, 366, rfl⟩
abbrev main_cst_16 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_cst_17 : Ref sig .tc := ⟨.hbm, 373, rfl⟩
abbrev main_v319 : Ref sig .tc := ⟨.hbm, 374, rfl⟩
abbrev main_v320 : Ref sig .tc := ⟨.hbm, 375, rfl⟩
abbrev main_cst_18 : Ref sig .tc := ⟨.hbm, 376, rfl⟩
abbrev main_v321 : Ref sig .tc := ⟨.hbm, 377, rfl⟩
abbrev main_v322 : Ref sig .tc := ⟨.hbm, 378, rfl⟩
abbrev main_cst_19 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_cst_20 : Ref sig .tc := ⟨.hbm, 404, rfl⟩
abbrev main_v347 : Ref sig .tc := ⟨.hbm, 405, rfl⟩
abbrev main_v348 : Ref sig .tc := ⟨.hbm, 406, rfl⟩
abbrev main_cst_21 : Ref sig .tc := ⟨.hbm, 407, rfl⟩
abbrev main_v349 : Ref sig .tc := ⟨.hbm, 408, rfl⟩
abbrev main_v350 : Ref sig .tc := ⟨.hbm, 409, rfl⟩
abbrev main_v351 : Ref sig .tc := ⟨.hbm, 410, rfl⟩
abbrev main_v352 : Ref sig .tc := ⟨.hbm, 411, rfl⟩
abbrev main_v353 : Ref sig .tc := ⟨.hbm, 412, rfl⟩
abbrev main_v354 : Ref sig .tc := ⟨.hbm, 413, rfl⟩
abbrev main_v355 : Ref sig .tc := ⟨.hbm, 414, rfl⟩
abbrev main_v356 : Ref sig .tc := ⟨.hbm, 415, rfl⟩
abbrev main_v357 : Ref sig .tc := ⟨.hbm, 416, rfl⟩
abbrev main_v358 : Ref sig .tc := ⟨.hbm, 417, rfl⟩
abbrev main_v359 : Ref sig .tc := ⟨.hbm, 418, rfl⟩
abbrev main_v360 : Ref sig .tc := ⟨.hbm, 419, rfl⟩
abbrev main_v361 : Ref sig .tc := ⟨.hbm, 420, rfl⟩
abbrev main_v362 : Ref sig .tc := ⟨.hbm, 421, rfl⟩
abbrev main_v363 : Ref sig .tc := ⟨.hbm, 422, rfl⟩
abbrev main_v364 : Ref sig .tc := ⟨.hbm, 423, rfl⟩
abbrev main_v365 : Ref sig .tc := ⟨.hbm, 424, rfl⟩
abbrev main_v366 : Ref sig .tc := ⟨.hbm, 425, rfl⟩

abbrev nD : Nat := 1
abbrev τ : Topo := Topo.v7x

variable {F : FTy → Type} [FloatOps F]
-- ==== FwdK.lean ====
abbrev S2x16384x512 : Shape := ⟨3, ![2, 16384, 512]⟩
abbrev S2x16384x1024 : Shape := ⟨3, ![2, 16384, 1024]⟩
abbrev S2x4x256x128 : Shape := ⟨4, ![2, 4, 256, 128]⟩
abbrev S1x1024x512 : Shape := ⟨3, ![1, 1024, 512]⟩
abbrev S1x1024x1024 : Shape := ⟨3, ![1, 1024, 1024]⟩
abbrev S1x4x256x128 : Shape := ⟨4, ![1, 4, 256, 128]⟩
abbrev S4x256x128 : Shape := ⟨3, ![4, 256, 128]⟩
abbrev S1024x1024 : Shape := ⟨2, ![1024, 1024]⟩
abbrev S1024x512 : Shape := ⟨2, ![1024, 512]⟩
abbrev S64x64 : Shape := ⟨2, ![64, 64]⟩
abbrev S64x512 : Shape := ⟨2, ![64, 512]⟩
abbrev S64x16384 : Shape := ⟨2, ![64, 16384]⟩
abbrev S1x512 : Shape := ⟨2, ![1, 512]⟩
abbrev S64x128 : Shape := ⟨2, ![64, 128]⟩
abbrev S64x256 : Shape := ⟨2, ![64, 256]⟩
abbrev S256x128 : Shape := ⟨2, ![256, 128]⟩
abbrev S1x256x128 : Shape := ⟨3, ![1, 256, 128]⟩
abbrev S1x128 : Shape := ⟨2, ![1, 128]⟩
abbrev S1024x256 : Shape := ⟨2, ![1024, 256]⟩
abbrev S1x1024x256 : Shape := ⟨3, ![1, 1024, 256]⟩
abbrev S1024 : Shape := ⟨1, ![1024]⟩
abbrev S1024x1 : Shape := ⟨2, ![1024, 1]⟩

abbrev nBuf : Space → Nat
  | .hbm => 8
  | .vmem => 18
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x16384x1024, .bf16⟩
  | .hbm, ⟨3, _⟩ => ⟨S2x16384x512, .f32⟩
  | .hbm, ⟨4, _⟩ => ⟨S2x16384x1024, .f32⟩
  | .hbm, ⟨5, _⟩ => ⟨S2x4x256x128, .f32⟩
  | .hbm, ⟨6, _⟩ => ⟨S2x16384x1024, .f32⟩
  | .hbm, ⟨7, _⟩ => ⟨S2x4x256x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x1024, .f32⟩
  | .local _ .vmem, ⟨9, _⟩ => ⟨S1x1024x1024, .f32⟩
  | .local _ .vmem, ⟨10, _⟩ => ⟨S1x4x256x128, .f32⟩
  | .local _ .vmem, ⟨11, _⟩ => ⟨S1x4x256x128, .f32⟩
  | .local _ .vmem, ⟨12, _⟩ => ⟨S1x1024x1024, .f32⟩
  | .local _ .vmem, ⟨13, _⟩ => ⟨S1x1024x1024, .f32⟩
  | .local _ .vmem, ⟨14, _⟩ => ⟨S1x4x256x128, .f32⟩
  | .local _ .vmem, ⟨15, _⟩ => ⟨S1x4x256x128, .f32⟩
  | .local _ .vmem, ⟨16, _⟩ => ⟨S4x256x128, .f32⟩
  | .local _ .vmem, ⟨17, _⟩ => ⟨S1024x1024, .f32⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v2130 : BitVec 1 := Scalar.cmpi .eq arg1 c15_i32
  let v2131 : BitVec 32 := Scalar.extui v2130
  let c0_i32_782 : BitVec 32 := 0#32
  let v2132 : BitVec 1 := Scalar.cmpi .ne v2131 c0_i32_782
  v2132

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== BwdK.lean ====
abbrev S2x16384x1024 : Shape := ⟨3, ![2, 16384, 1024]⟩
abbrev S2x1x6144 : Shape := ⟨3, ![2, 1, 6144]⟩
abbrev S1024 : Shape := ⟨1, ![1024]⟩
abbrev S1024x10272 : Shape := ⟨2, ![1024, 10272]⟩
abbrev S2x16x512 : Shape := ⟨3, ![2, 16, 512]⟩
abbrev S2x512 : Shape := ⟨2, ![2, 512]⟩
abbrev S2x4x256x128 : Shape := ⟨4, ![2, 4, 256, 128]⟩
abbrev S1024x2080 : Shape := ⟨2, ![1024, 2080]⟩
abbrev S_ : Shape := ⟨0, ![]⟩
abbrev S1024x2176 : Shape := ⟨2, ![1024, 2176]⟩
abbrev S128x1024 : Shape := ⟨2, ![128, 1024]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S1x1024 : Shape := ⟨2, ![1, 1024]⟩
abbrev S2x6x1024 : Shape := ⟨3, ![2, 6, 1024]⟩
abbrev S2x8x1024 : Shape := ⟨3, ![2, 8, 1024]⟩
abbrev S2x16384x512 : Shape := ⟨3, ![2, 16384, 512]⟩
abbrev S1x1024x1024 : Shape := ⟨3, ![1, 1024, 1024]⟩
abbrev S1x8x1024 : Shape := ⟨3, ![1, 8, 1024]⟩
abbrev S1x4x256x128 : Shape := ⟨4, ![1, 4, 256, 128]⟩
abbrev S1x1024x512 : Shape := ⟨3, ![1, 1024, 512]⟩
abbrev S4x256x128 : Shape := ⟨3, ![4, 256, 128]⟩
abbrev S1024x1024 : Shape := ⟨2, ![1024, 1024]⟩
abbrev S1x1x1024 : Shape := ⟨3, ![1, 1, 1024]⟩
abbrev S1024x1 : Shape := ⟨2, ![1024, 1]⟩
abbrev S1024x128 : Shape := ⟨2, ![1024, 128]⟩
abbrev S1024x2048 : Shape := ⟨2, ![1024, 2048]⟩
abbrev S1024x512 : Shape := ⟨2, ![1024, 512]⟩
abbrev S64x64 : Shape := ⟨2, ![64, 64]⟩
abbrev S64x512 : Shape := ⟨2, ![64, 512]⟩
abbrev S64x16384 : Shape := ⟨2, ![64, 16384]⟩
abbrev S1x512 : Shape := ⟨2, ![1, 512]⟩
abbrev S64x128 : Shape := ⟨2, ![64, 128]⟩
abbrev S64x256 : Shape := ⟨2, ![64, 256]⟩
abbrev S256x128 : Shape := ⟨2, ![256, 128]⟩
abbrev S1x64x256 : Shape := ⟨3, ![1, 64, 256]⟩
abbrev S1x256x128 : Shape := ⟨3, ![1, 256, 128]⟩
abbrev S1x128 : Shape := ⟨2, ![1, 128]⟩

abbrev nBuf : Space → Nat
  | .hbm => 43
  | .vmem => 23
  | .smem => 0
  | _ => 0

abbrev bufTy : (tb : Table) → Fin (tcTables nBuf tb) → BufTy
  | .hbm, ⟨0, _⟩ => ⟨S2x16384x1024, .f32⟩
  | .hbm, ⟨1, _⟩ => ⟨S2x1x6144, .f32⟩
  | .hbm, ⟨2, _⟩ => ⟨S1024, .f32⟩
  | .hbm, ⟨3, _⟩ => ⟨S1024x10272, .f32⟩
  | .hbm, ⟨4, _⟩ => ⟨S2x16x512, .f32⟩
  | .hbm, ⟨5, _⟩ => ⟨S2x512, .f32⟩
  | .hbm, ⟨6, _⟩ => ⟨S2x4x256x128, .f32⟩
  | .hbm, ⟨7, _⟩ => ⟨S1024x2080, .f32⟩
  | .hbm, ⟨8, _⟩ => ⟨S_, .i32⟩
  | .hbm, ⟨9, _⟩ => ⟨S_, .f32⟩
  | .hbm, ⟨10, _⟩ => ⟨S1024x2176, .f32⟩
  | .hbm, ⟨11, _⟩ => ⟨S1024x2176, .bf16⟩
  | .hbm, ⟨12, _⟩ => ⟨S_, .f32⟩
  | .hbm, ⟨13, _⟩ => ⟨S128x1024, .f32⟩
  | .hbm, ⟨14, _⟩ => ⟨S1x16x512, .f32⟩
  | .hbm, ⟨15, _⟩ => ⟨S16x512, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S128x1024, .f32⟩
  | .hbm, ⟨22, _⟩ => ⟨S1x16x512, .f32⟩
  | .hbm, ⟨23, _⟩ => ⟨S16x512, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S128x1024, .f32⟩
  | .hbm, ⟨30, _⟩ => ⟨S128x1024, .bf16⟩
  | .hbm, ⟨31, _⟩ => ⟨S1x1024, .f32⟩
  | .hbm, ⟨32, _⟩ => ⟨S2x6x1024, .f32⟩
  | .hbm, ⟨33, _⟩ => ⟨S_, .i32⟩
  | .hbm, ⟨34, _⟩ => ⟨S_, .f32⟩
  | .hbm, ⟨35, _⟩ => ⟨S2x8x1024, .f32⟩
  | .hbm, ⟨36, _⟩ => ⟨S1x1024, .f32⟩
  | .hbm, ⟨37, _⟩ => ⟨S2x16384x512, .bf16⟩
  | .hbm, ⟨38, _⟩ => ⟨S2x16384x512, .bf16⟩
  | .hbm, ⟨39, _⟩ => ⟨S2x16384x1024, .bf16⟩
  | .hbm, ⟨40, _⟩ => ⟨S2x16384x512, .f32⟩
  | .hbm, ⟨41, _⟩ => ⟨S2x16384x1024, .f32⟩
  | .hbm, ⟨42, _⟩ => ⟨S2x4x256x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2176, .bf16⟩
  | .local _ .vmem, ⟨6, _⟩ => ⟨S128x1024, .bf16⟩
  | .local _ .vmem, ⟨7, _⟩ => ⟨S1x1024, .f32⟩
  | .local _ .vmem, ⟨8, _⟩ => ⟨S1x4x256x128, .f32⟩
  | .local _ .vmem, ⟨9, _⟩ => ⟨S1x4x256x128, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x512, .f32⟩
  | .local _ .vmem, ⟨17, _⟩ => ⟨S1x1024x512, .f32⟩
  | .local _ .vmem, ⟨18, _⟩ => ⟨S1x1024x1024, .f32⟩
  | .local _ .vmem, ⟨19, _⟩ => ⟨S1x1024x1024, .f32⟩
  | .local _ .vmem, ⟨20, _⟩ => ⟨S1x4x256x128, .f32⟩
  | .local _ .vmem, ⟨21, _⟩ => ⟨S1x4x256x128, .f32⟩
  | .local _ .vmem, ⟨22, _⟩ => ⟨S4x256x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v2191 : BitVec 1 := Scalar.cmpi .eq arg1 c15_i32
  let v2192 : BitVec 32 := Scalar.extui v2191
  let c0_i32_960 : BitVec 32 := 0#32
  let v2193 : BitVec 1 := Scalar.cmpi .ne v2192 c0_i32_960
  v2193

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Proof.Rows.lean ====
module

public import Idealize.ShloMosaic.Lib.Pointwise

@[expose] public section

/-! Row functions that the programs below share, and the two spellings of the logistic function. -/

set_option maxRecDepth 16384

noncomputable section

namespace Cert.Rows

open Idealize.ShloMosaic

/-- The constant one half at each of its uses. -/
theorem half_val : Ideal.ofBits FTy.f32 0x3F000000#32 = ((1 / 2 : ℝ) : EReal) := by
  simp [Ideal.ofBits, Ideal.ieee, -EReal.coe_mul]; norm_num

theorem one_val : Ideal.ofBits FTy.f32 0x3F800000#32 = (1 : EReal) := by
  rw [← EReal.coe_one]
  simp [Ideal.ofBits, Ideal.ieee, -EReal.coe_mul, -EReal.coe_one]; norm_num

/-- The logistic function through the hyperbolic tangent, over the reals. -/
theorem real_tanh_half (r : ℝ) : (1 / 2) * Real.tanh ((1 / 2) * r) + 1 / 2 = 1 / (1 + Real.exp (-r)) := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  have hp := Real.exp_pos (1 / 2 * r)
  have hq := Real.exp_pos (-(1 / 2 * r))
  rw [Real.tanh_eq_sinh_div_cosh, Real.sinh_eq, Real.cosh_eq, h1]
  generalize Real.exp (1 / 2 * r) = p at *
  generalize Real.exp (-(1 / 2 * r)) = q at *
  have : (1 : ℝ) + q * q = q * (p + q) := by linear_combination -h2
  rw [this]
  field_simp
  linear_combination 2 * h2

/-- The logistic function spelled with the hyperbolic tangent is the one spelled with the exponential, everywhere. -/
theorem sigmoid_eq (x : EReal) :
    ((1 / 2 : ℝ) : EReal) * Ideal.tanh (((1 / 2 : ℝ) : EReal) * x) + ((1 / 2 : ℝ) : EReal) = Ideal.div 1 (1 + Ideal.exp (-x)) := by
  induction x using EReal.rec with
  | bot =>
    rw [EReal.coe_mul_bot_of_pos (by norm_num), Ideal.tanh_bot, EReal.neg_bot, Ideal.exp_top]
    rw [show (1 : EReal) + ⊤ = ⊤ from rfl, Ideal.div, if_neg (by simp), EReal.inv_top, mul_zero]
    rw [show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot, add_zero, mul_one]
    rw [show (1 : EReal) = ((1 : ℝ) : EReal) from rfl, Ideal.div_coe (by norm_num), ← EReal.coe_mul, ← EReal.coe_add]
    norm_num
  | coe r =>
    have hpos : (0 : ℝ) < 1 + Real.exp (-r) := by positivity
    rw [← EReal.coe_mul, Ideal.tanh_coe, ← EReal.coe_mul, ← EReal.coe_add, ← EReal.coe_neg, Ideal.exp_coe,
      show (1 : EReal) = ((1 : ℝ) : EReal) from rfl, ← EReal.coe_add, Ideal.div_coe hpos.ne', ← EReal.coe_mul,
      real_tanh_half, one_mul]

/-- A row scaled to unit root mean square, times its gain. -/
def rms (x g : Fin 1024 → EReal) (j : Fin 1024) : EReal :=
  x j * Ideal.rsqrt (Ideal.div (∑ k, x k * x k) (Ideal.ofBits FTy.f32 0x44800000#32) + Ideal.ofBits FTy.f32 0x358637BD#32) * g j

/-- The modulated row: the normalized one times one plus the scale, plus the shift. -/
def modRow (x g sc sh : Fin 1024 → EReal) (j : Fin 1024) : EReal :=
  rms x g j * (1 + sc j) + sh j

/-- A row through a matrix. -/
def rowMul {n p : ℕ} (x : Fin n → EReal) (w : Fin n → Fin p → EReal) (j : Fin p) : EReal :=
  ∑ k, x k * w k j

/-- The gated unit: the first half of the row times its logistic, times the second half. -/
def gated (u : Fin 5632 → EReal) (k : Fin 2816) : EReal :=
  u ⟨k.val, by omega⟩ * Ideal.div 1 (1 + Ideal.exp (-u ⟨k.val, by omega⟩)) * u ⟨2816 + k.val, by omega⟩

/-- One token's row through the feed-forward part: the residual row plus the gate times the gated unit's output. -/
def ffnRes (x g sc sh ga : Fin 1024 → EReal) (w1 : Fin 1024 → Fin 5632 → EReal) (w2 : Fin 2816 → Fin 1024 → EReal)
    (j : Fin 1024) : EReal :=
  x j + ga j * rowMul (gated (rowMul (modRow x g sc sh) w1)) w2 j

end Cert.Rows
end
-- ==== Proof.FfnPay.lean ====
module

public import proofs.«01_k».proof.Proof.Gen.FfnKIdeal.Value
public import proofs.«01_k».proof.Proof.Rows

@[expose] public section

/-! What one grid point of the feed-forward call leaves, row by row. -/

set_option maxRecDepth 16384

noncomputable section

namespace Cert.FfnPay

open Idealize.ShloMosaic Idealize.SL.Sem Cert.FfnKIdeal Cert.FfnKIdeal.Gen Cert.Rows

theorem pay3_at (x : Vec Ideal S1x512x1024 .f32) (g : Vec Ideal S1x1024 .f32) (sh sc : Vec Ideal S1x1x1024 .f32)
    (w : Vec Ideal S1024x5632 .bf16) (r : Fin 512) (j : Fin 5632) :
    k0_pay3 x g sh sc w (ix2 r j)
      = rowMul (modRow (fun k => x (ix3 0 r k)) (fun k => g (ix2 0 k)) (fun k => sc (ix3 0 0 k)) (fun k => sh (ix3 0 0 k)))
          (fun k j => w (ix2 k j)) j := by
  unfold k0_pay3 k0_pay2
  pointwise
  simp only [rowMul, modRow, rms, one_val]

theorem pay1_at (x : Vec Ideal S1x512x1024 .f32) (g : Vec Ideal S1x1024 .f32) (sh sc ga : Vec Ideal S1x1x1024 .f32)
    (w : Vec Ideal S1024x5632 .bf16) (w2 : Vec Ideal S2816x1024 .bf16) (fg : Vec Ideal S1x1024 .f32)
    (r : Fin 512) (j : Fin 1024) :
    k0_pay1 (k0_pay2 x) (k0_pay3 x g sh sc w) (k0_pay4 x g sh sc w) (k0_pay5 x g sh sc w) (k0_pay6 (F := Ideal)) ga w2 fg (ix3 0 r j)
      = rms (ffnRes (fun k => x (ix3 0 r k)) (fun k => g (ix2 0 k)) (fun k => sc (ix3 0 0 k)) (fun k => sh (ix3 0 0 k))
          (fun k => ga (ix3 0 0 k)) (fun k j => w (ix2 k j)) (fun k j => w2 (ix2 k j))) (fun k => fg (ix2 0 k)) j := by
  unfold k0_pay1 k0_pay5 k0_pay4 k0_pay6
  generalize hU : k0_pay3 x g sh sc w = U
  have hU' : ∀ j, U (ix2 r j) = _ := fun j => hU ▸ pay3_at x g sh sc w r j
  unfold k0_pay2
  pointwise
  simp only [half_val, sigmoid_eq, hU']
  rfl

end Cert.FfnPay
end
-- ==== Proof.FfnKer.lean ====
module

public import proofs.«01_k».proof.Proof.FfnPay
public import Idealize.ShloMosaic.Lib.StableHlo.ReadAt
public import Idealize.ShloMosaic.Lib.Pipeline.ValueKit

@[expose] public section

/-! The feed-forward call's result array, as one function of its arguments. -/

set_option maxRecDepth 16384

noncomputable section

namespace Cert.FfnKer

open Idealize.ShloMosaic Idealize.ShloMosaic.TcCoe Idealize.SL.Sem Cert.FfnKIdeal Cert.FfnKIdeal.Gen Cert.Rows

variable (m : (ℓ : Loc nD τ sig) → Buf (Elt Ideal) ℓ) (c : Dev nD)

/-- A slice of the modulation array: batch `b`, part `p`. -/
def adaPart (ada : Vec Ideal S2x1x6144 .f32) (p : ℕ) (hp : p < 6) (b : Fin 2) (j : Fin 1024) : EReal :=
  ada (ix3 b 0 ⟨p * 1024 + j.val, by omega⟩)

/-- The result at batch `b`, token `s`, channel `j`. -/
def G (h : Vec Ideal S2x16384x1024 .f32) (ada : Vec Ideal S2x1x6144 .f32) (g : Vec Ideal S1024 .f32)
    (w1 : Vec Ideal S1024x5632 .f32) (w2 : Vec Ideal S2816x1024 .f32) (fg : Vec Ideal S1024 .f32)
    (b : Fin 2) (s : Fin 16384) (j : Fin 1024) : EReal :=
  rms (ffnRes (fun k => h (ix3 b s k)) (fun k => g (ix1 k)) (adaPart ada 4 (by omega) b) (adaPart ada 3 (by omega) b)
    (adaPart ada 5 (by omega) b) (fun k j => w1 (ix2 k j)) (fun k j => w2 (ix2 k j))) (fun k => fg (ix1 k)) j

theorem idx : ∀ t : Fin cfg0.N, win0_0.index t = ![(grid0.coords t 0).val, (grid0.coords t 1).val, 0]
    ∧ win0_1.index t = ![(grid0.coords t 0).val, 0, 0] ∧ win0_2.index t = ![0, 0] ∧ win0_3.index t = ![0, 0]
    ∧ win0_4.index t = ![0, 0] ∧ win0_5.index t = ![0, 0]
    ∧ win0_6.index t = ![(grid0.coords t 0).val, (grid0.coords t 1).val, 0] := by decide +kernel

/-- The padded modulation rows. -/
theorem v1_at (b : Fin 2) (p : Fin 8) (hp : p.val < 6) (j : Fin 1024) :
    (V m c main_v1 : Vec Ideal S2x8x1024 .f32) (ix3 b p j) = adaPart (m ((c : Thread nD τ).loc main_arg1)) p.val hp b j := by
  unfold V
  after_reads_at
  rw [dif_pos hp]
  rfl

theorem v2_at (j : Fin 1024) : (V m c main_v2 : Vec Ideal S1x1024 .f32) (ix2 0 j) = (m ((c : Thread nD τ).loc main_arg2) : Vec Ideal S1024 .f32) (ix1 j) := by
  unfold V
  after_reads_at

theorem v3_at (k : Fin 1024) (j : Fin 5632) : (V m c main_v3 : Vec Ideal S1024x5632 .bf16) (ix2 k j) = (m ((c : Thread nD τ).loc main_arg3) : Vec Ideal S1024x5632 .f32) (ix2 k j) := by
  unfold V
  after_reads_at

theorem v4_at (k : Fin 2816) (j : Fin 1024) : (V m c main_v4 : Vec Ideal S2816x1024 .bf16) (ix2 k j) = (m ((c : Thread nD τ).loc main_arg4) : Vec Ideal S2816x1024 .f32) (ix2 k j) := by
  unfold V
  after_reads_at

theorem v5_at (j : Fin 1024) : (V m c main_v5 : Vec Ideal S1x1024 .f32) (ix2 0 j) = (m ((c : Thread nD τ).loc main_arg5) : Vec Ideal S1024 .f32) (ix1 j) := by
  unfold V
  after_reads_at

/-- The token that row `r` of point `t`'s block is. -/
def tok (t : Fin cfg0.N) (r : Fin 512) : Fin 16384 :=
  ⟨(grid0.coords t 1).val * 512 + r.val, by have h : (grid0.coords t 1).val < 32 := (grid0.coords t 1).isLt; omega⟩

theorem blk0_at (t : Fin cfg0.N) (r : Fin 512) (k : Fin 1024) :
    (iblk m c 0 t : Vec Ideal S1x512x1024 .f32) (ix3 0 r k) = (m ((c : Thread nD τ).loc main_arg0) : Vec Ideal S2x16384x1024 .f32) (ix3 (grid0.coords t 0) (tok t r) k) := by
  rw [← V_main_arg0 m c]
  blk_ext [iblk, idx t, tok]

theorem blk1_at (t : Fin cfg0.N) (p : Fin 8) (k : Fin 1024) :
    (iblk m c 1 t : Vec Ideal S1x8x1024 .f32) (ix3 0 p k) = (V m c main_v1 : Vec Ideal S2x8x1024 .f32) (ix3 (grid0.coords t 0) p k) := by
  blk_ext [iblk, idx t]

theorem blk2_at (t : Fin cfg0.N) (k : Fin 1024) :
    (iblk m c 2 t : Vec Ideal S1x1024 .f32) (ix2 0 k) = (V m c main_v2 : Vec Ideal S1x1024 .f32) (ix2 0 k) := by
  blk_ext [iblk, idx t]

theorem blk3_at (t : Fin cfg0.N) (k : Fin 1024) (j : Fin 5632) :
    (iblk m c 3 t : Vec Ideal S1024x5632 .bf16) (ix2 k j) = (V m c main_v3 : Vec Ideal S1024x5632 .bf16) (ix2 k j) := by
  blk_ext [iblk, idx t]

theorem blk4_at (t : Fin cfg0.N) (k : Fin 2816) (j : Fin 1024) :
    (iblk m c 4 t : Vec Ideal S2816x1024 .bf16) (ix2 k j) = (V m c main_v4 : Vec Ideal S2816x1024 .bf16) (ix2 k j) := by
  blk_ext [iblk, idx t]

theorem blk5_at (t : Fin cfg0.N) (k : Fin 1024) :
    (iblk m c 5 t : Vec Ideal S1x1024 .f32) (ix2 0 k) = (V m c main_v5 : Vec Ideal S1x1024 .f32) (ix2 0 k) := by
  blk_ext [iblk, idx t]

/-- Row `p` of a modulation block. -/
theorem ld_row (X : Vec Ideal S1x8x1024 .f32) (p : Fin 8) (inb : ∀ a, (![0, p.val, 0] : Fin 3 → Nat) a + S1x1x1024.size a ≤ S1x8x1024.size a) (k : Fin 1024) :
    (View.ld X (Rect.unit (s := S1x8x1024) ![0, p.val, 0] S1x1x1024.size inb) : Vec Ideal S1x1x1024 .f32) (ix3 0 0 k) = X (ix3 0 p k) := by
  pointwise

theorem arr_main_v6 :
    (dats m 0 c).arrAt 6 cfg0.N = fun i : S2x16384x1024.Idx => G (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (i 0) (i 1) (i 2) := by
  refine (dats m 0 c).arrAt_eq_of_covers 6 _ (by decide +kernel) fun t hf y => ?_
  blk_simp
  rw [after0_6]
  unfold out0_6
  obtain ⟨z, r, j, rfl⟩ : ∃ (z : Fin 1) (r : Fin 512) (j : Fin 1024), y = ix3 z r j := ⟨y 0, y 1, y 2, (ix3_eta y).symm⟩
  obtain rfl : z = 0 := Subsingleton.elim _ _
  rw [View.canon_unit_zero (by funext a; fin_cases a <;> rfl)]
  simp only [View.ld_unit_zero (S := S1x512x1024) (off := ![0, 0, 0]) (by funext a; fin_cases a <;> rfl),
    View.ld_unit_zero (S := S1x1024) (off := ![0, 0]) (by funext a; fin_cases a <;> rfl),
    View.ld_unit_zero (S := S1024x5632) (off := ![0, 0]) (by funext a; fin_cases a <;> rfl),
    View.ld_unit_zero (S := S2816x1024) (off := ![0, 0]) (by funext a; fin_cases a <;> rfl)]
  refine (FfnPay.pay1_at _ _ _ _ _ _ _ _ r j).trans ?_
  have e0 : (win0_6.blk t).view.emb (ix3 0 r j) = (ix3 (grid0.coords t 0) (tok t r) j : S2x16384x1024.Idx) := by
    blk_ext [idx t, tok]
  rw [e0]
  have hx : ∀ k, _ = _ := fun k => blk0_at m c t r k
  have hg : ∀ k, _ = _ := fun k => (blk2_at m c t k).trans (v2_at m c k)
  have h1 : ∀ k j, _ = _ := fun k j => (blk3_at m c t k j).trans (v3_at m c k j)
  have h2 : ∀ k j, _ = _ := fun k j => (blk4_at m c t k j).trans (v4_at m c k j)
  have h5 : ∀ k, _ = _ := fun k => (blk5_at m c t k).trans (v5_at m c k)
  have hsh : ∀ k, (View.ld (iblk m c 1 t) r0_2 : Vec Ideal S1x1x1024 .f32) (ix3 0 0 k) = _ := fun k =>
    (ld_row _ 3 _ k).trans ((blk1_at m c t 3 k).trans (v1_at m c _ 3 (by decide) k))
  have hsc : ∀ k, (View.ld (iblk m c 1 t) r0_3 : Vec Ideal S1x1x1024 .f32) (ix3 0 0 k) = _ := fun k =>
    (ld_row _ 4 _ k).trans ((blk1_at m c t 4 k).trans (v1_at m c _ 4 (by decide) k))
  have hga : ∀ k, (View.ld (iblk m c 1 t) r0_5 : Vec Ideal S1x1x1024 .f32) (ix3 0 0 k) = _ := fun k =>
    (ld_row _ 5 _ k).trans ((blk1_at m c t 5 k).trans (v1_at m c _ 5 (by decide) k))
  simp only [hx, hg, h1, h2, h5, hsh, hsc, hga]
  rfl

end Cert.FfnKer
end
-- ==== Proof.FfnRef.lean ====
module

public import proofs.«01_k».proof.Proof.FfnKer
public import proofs.«01_k».proof.Proof.Gen.FfnRIdeal.Read
public import Idealize.ShloMosaic.Lib.Claim
public import proofs.«01_k».proof.Defs

@[expose] public section

/-! The reference of the feed-forward call at an index, and the equation of the two programs. -/

set_option maxRecDepth 16384

noncomputable section

namespace Cert.FfnRef

open Idealize.ShloMosaic Idealize.ShloMosaic.TcCoe Idealize.SL.Sem Cert.FfnRIdeal Cert.FfnRIdeal.Read Cert.Rows

variable (h : Vec Ideal S2x16384x1024 .f32) (ada : Vec Ideal S2x1x6144 .f32) (g : Vec Ideal S1024 .f32)
    (w1 : Vec Ideal S1024x5632 .f32) (w2 : Vec Ideal S2816x1024 .f32) (fg : Vec Ideal S1024 .f32)

theorem up_at (b : Fin 2) (s : Fin 16384) (j : Fin 5632) :
    val_main_v25 (F := Ideal) h ada g w1 (ix3 b s j)
      = rowMul (modRow (fun k => h (ix3 b s k)) (fun k => g (ix1 k)) (FfnKer.adaPart ada 4 (by omega) b) (FfnKer.adaPart ada 3 (by omega) b))
          (fun k j => w1 (ix2 k j)) j := by
  unfold val_main_v25 val_main_v24 val_main_v23 val_main_v22 val_main_v21 val_main_v20 val_main_v19 val_main_cst_2 val_main_v18 val_main_v17
    val_main_v16 val_main_v15 val_main_v14 val_main_v13 val_main_v12 val_main_v11 val_main_cst_1 val_main_v10 val_main_v9 val_main_cst_0
    val_main_v8 val_main_v7 val_main_cst val_main_v6 val_main_v3 val_main_v4
  pointwise
  rfl

theorem res_at (b : Fin 2) (s : Fin 16384) (j : Fin 1024) :
    val_main_v33 (F := Ideal) h ada g w1 w2 (ix3 b s j)
      = ffnRes (fun k => h (ix3 b s k)) (fun k => g (ix1 k)) (FfnKer.adaPart ada 4 (by omega) b) (FfnKer.adaPart ada 3 (by omega) b)
          (FfnKer.adaPart ada 5 (by omega) b) (fun k j => w1 (ix2 k j)) (fun k j => w2 (ix2 k j)) j := by
  unfold val_main_v33 val_main_v32 val_main_v31 val_main_v30 val_main_v29 val_main_v28 val_main_call0_v5 val_main_call0_v4 val_main_call0_v3
    val_main_call0_v2 val_main_call0_v1 val_main_call0_v0 val_main_call0_cst val_main_call0_cst_0 val_main_v27 val_main_v26 val_main_v5
  generalize hU : val_main_v25 (F := Ideal) h ada g w1 = U
  have hU' : ∀ j, U (ix3 b s j) = _ := fun j => hU ▸ up_at h ada g w1 b s j
  pointwise
  simp only [hU']
  rfl

theorem ref_at (b : Fin 2) (s : Fin 16384) (j : Fin 1024) :
    val_main_v46 (F := Ideal) h ada g w1 w2 fg (ix3 b s j) = FfnKer.G h ada g w1 w2 fg b s j := by
  unfold val_main_v46 val_main_v45 val_main_v44 val_main_v43 val_main_v42 val_main_v41 val_main_v40 val_main_v39 val_main_v38
    val_main_v37 val_main_v36 val_main_v35 val_main_v34 val_main_cst_3 val_main_cst_4 val_main_cst_5
  generalize hU : val_main_v33 (F := Ideal) h ada g w1 w2 = U
  have hU' : ∀ j, U (ix3 b s j) = _ := fun j => hU ▸ res_at h ada g w1 w2 b s j
  pointwise
  simp only [hU']
  rfl

/-- The value claim: kernel and reference leave the same array. -/
theorem algebraic : Cert.algebraic_FfnKIdeal_FfnRIdeal (hFfnKIdeal := Cert.FfnKIdeal.Gen.facts) (hFfnRIdeal := Cert.FfnRIdeal.Gen.facts) := by
  pair_intro
  · run_from Cert.FfnKIdeal.Value.run_blocks m g
  · run_from Cert.FfnRIdeal.Value.run m' g'
    rw [Cert.FfnRIdeal.Read.val_main_v46_eq, FfnKer.arr_main_v6]
    obtain ⟨e0, e1, e2, e3, e4, e5⟩ := hagree c
    funext i
    obtain ⟨b, s, j, rfl⟩ : ∃ (b : Fin 2) (s : Fin 16384) (j : Fin 1024), i = ix3 b s j := ⟨i 0, i 1, i 2, (ix3_eta i).symm⟩
    rw [e0, e1, e2, e3, e4, e5]
    exact ref_at _ _ _ _ _ _ b s j

end Cert.FfnRef
end
-- ==== Proof.FfnFrames.lean ====
module

public import proofs.«01_k».proof.Proof.Gen.FfnKIdeal.Value
public import proofs.«01_k».proof.Proof.Gen.FfnRIdeal.Run
public import proofs.«01_k».proof.Proof.Gen.FfnK
public import Idealize.ShloMosaic.Lib.Claim
public import proofs.«01_k».proof.Defs

@[expose] public section

set_option maxRecDepth 16384

/-! The feed-forward call and its reference run, keep their arguments and leave every counter at zero. -/

noncomputable section
namespace Cert.FfnFrames
open Idealize.ShloMosaic Idealize.ShloMosaic.TcCoe Idealize.SL.Sem

/-- The two printed texts hold the same body. -/
theorem defs_body : Cert.FfnK.defs₀ (F := Bits) = Cert.FfnKIdeal.defs₀ (F := Bits) := by
  unfold Cert.FfnK.defs₀ Cert.FfnKIdeal.defs₀
  refine congrArg Defs.onTc (funext fun l => funext fun x => ?_)
  match l, x with
  | 0, (t, s) => rfl

theorem defs_eq : Cert.FfnKIdeal.defs (F := Bits) = Cert.FfnK.defs (F := Bits) := congrArg (Pipeline.defs _) defs_body.symm

theorem frame_kernel : Cert.quiescent_FfnK (hFfnK := Cert.FfnK.Gen.facts) := by
  intro m ρ _
  have h := Cert.FfnKIdeal.Gen.frame (F := Bits) m ρ
  rw [defs_eq] at h
  exact h
theorem frame_ideal : Cert.quiescent_FfnKIdeal (hFfnKIdeal := Cert.FfnKIdeal.Gen.facts) := fun m ρ _ => Cert.FfnKIdeal.Gen.frame m ρ
theorem frame_ref : Cert.quiescent_FfnRIdeal (hFfnRIdeal := Cert.FfnRIdeal.Gen.facts) := by
  intro m ρ _
  exact (θ_run Cert.FfnRIdeal.defs _ _).mono (fun r h => ⟨fun c => (h c).2, sem_eq_zero_of_no_sems (by decide) r.2⟩)
    (Cert.FfnRIdeal.Value.run m ρ)
end Cert.FfnFrames
end
-- ==== Proof.MixSpec.lean ====
module

public import proofs.«01_k».proof.Proof.Rows

@[expose] public section

/-! The mixer as one function of rows: the three branches, their gated merge and the residual. Rows are numbered by
    naturals, so that a block of rows is the same function of the rows it holds. -/

set_option maxRecDepth 16384

noncomputable section

namespace Cert.MixSpec

open Idealize.ShloMosaic Cert.Rows

/-- The logistic function. -/
def sig (x : EReal) : EReal := Ideal.div 1 (1 + Ideal.exp (-x))

def silu (x : EReal) : EReal := x * sig x

/-- The Gaussian error unit through the hyperbolic tangent. -/
def gelu (x : EReal) : EReal :=
  x * (((1 / 2 : ℝ) : EReal) * (1 + Ideal.tanh (Ideal.ofBits FTy.f32 0x3F4C422A#32 * (x + Ideal.ofBits FTy.f32 0x3D372713#32 * (x * x * x)))))

def mean (x : Fin 1024 → EReal) : EReal := Ideal.div (∑ k, x k) (Ideal.ofBits FTy.f32 0x44800000#32)

/-- A row less its mean, scaled to unit variance, times the gain, plus the offset. -/
def lnorm (x g b : Fin 1024 → EReal) (j : Fin 1024) : EReal :=
  (x j - mean x) * Ideal.rsqrt (mean (fun k => (x k - mean x) * (x k - mean x)) + Ideal.ofBits FTy.f32 0x358637BD#32) * g j + b j

/-- The recurrence's output, gained and gated. -/
def ain (on : ℕ → Fin 1024 → EReal) (gg : Fin 1024 → EReal) (R : ℕ → Fin 1024 → EReal) (n : ℕ) (j : Fin 1024) : EReal :=
  on n j * gg j * silu (R n j)

/-- The gated unit before the convolution. -/
def glu (CV : ℕ → Fin 2048 → EReal) (n : ℕ) (j : Fin 1024) : EReal :=
  CV n ⟨j.val, by omega⟩ * sig (CV n ⟨1024 + j.val, by omega⟩)

/-- Segment `q` of 64 rows with 16 zero rows on either side. -/
def halo (CV : ℕ → Fin 2048 → EReal) (q i : ℕ) (j : Fin 1024) : EReal :=
  if 16 ≤ i ∧ i < 80 then glu CV (64 * q + (i - 16)) j else 0

/-- The convolution along each segment, 31 taps. -/
def conv (CV : ℕ → Fin 2048 → EReal) (cw : Fin 31 → Fin 1024 → EReal) (n : ℕ) (j : Fin 1024) : EReal :=
  ∑ p : Fin 31, halo CV (n / 64) (n % 64 + p.val + 1) j * cw p j

def bin (CV : ℕ → Fin 2048 → EReal) (cw : Fin 31 → Fin 1024 → EReal) (cb g b : Fin 1024 → EReal) (n : ℕ) (j : Fin 1024) : EReal :=
  silu (lnorm (fun k => conv CV cw n k + cb k) g b j)

/-- The second half of the gating unit, normalized. -/
def sv (SG : ℕ → Fin 2048 → EReal) (g b : Fin 1024 → EReal) (n : ℕ) (j : Fin 1024) : EReal :=
  lnorm (fun k => gelu (SG n ⟨1024 + k.val, by omega⟩)) g b j

/-- The mixing of a chunk's 128 rows, group by group, plus its bias. -/
def sp (SG : ℕ → Fin 2048 → EReal) (g b : Fin 1024 → EReal) (ws : Fin 8 → Fin 128 → Fin 128 → EReal) (sb : Fin 128 → Fin 1024 → EReal)
    (n : ℕ) (j : Fin 1024) : EReal :=
  (∑ i : Fin 128, ws ⟨j.val / 128, by omega⟩ ⟨n % 128, Nat.mod_lt _ (by norm_num)⟩ i * sv SG g b (n / 128 * 128 + i.val) j)
    + sb ⟨n % 128, Nat.mod_lt _ (by norm_num)⟩ j

def cin (SG : ℕ → Fin 2048 → EReal) (g b : Fin 1024 → EReal) (ws : Fin 8 → Fin 128 → Fin 128 → EReal) (sb : Fin 128 → Fin 1024 → EReal)
    (n : ℕ) (j : Fin 1024) : EReal :=
  gelu (SG n ⟨j.val, by omega⟩) * sp SG g b ws sb n j

/-- The gated merge of three branches. -/
def merge (GT : ℕ → Fin 3072 → EReal) (ya yb yc : ℕ → Fin 1024 → EReal) (n : ℕ) (j : Fin 1024) : EReal :=
  sig (GT n ⟨j.val, by omega⟩) * ya n j + sig (GT n ⟨1024 + j.val, by omega⟩) * yb n j + sig (GT n ⟨2048 + j.val, by omega⟩) * yc n j

/-- The output row: the residual plus the gate times the merged row through the output matrix. -/
def out (x y : ℕ → Fin 1024 → EReal) (ga : Fin 1024 → EReal) (wo : Fin 1024 → Fin 1024 → EReal) (n : ℕ) (j : Fin 1024) : EReal :=
  x n j + ga j * rowMul (y n) wo j

theorem halo_shift (CV : ℕ → Fin 2048 → EReal) (T q i : ℕ) (j : Fin 1024) :
    halo CV (4 * T + q) i j = halo (fun n => CV (256 * T + n)) q i j := by
  unfold halo glu
  rw [show 64 * (4 * T + q) + (i - 16) = 256 * T + (64 * q + (i - 16)) by omega]

theorem conv_shift (CV : ℕ → Fin 2048 → EReal) (cw : Fin 31 → Fin 1024 → EReal) (T n : ℕ) (j : Fin 1024) :
    conv CV cw (256 * T + n) j = conv (fun n => CV (256 * T + n)) cw n j := by
  unfold conv
  rw [show (256 * T + n) / 64 = 4 * T + n / 64 by omega, show (256 * T + n) % 64 = n % 64 by omega]
  simp only [halo_shift]

theorem bin_shift (CV : ℕ → Fin 2048 → EReal) (cw : Fin 31 → Fin 1024 → EReal) (cb g b : Fin 1024 → EReal) (T n : ℕ) (j : Fin 1024) :
    bin CV cw cb g b (256 * T + n) j = bin (fun n => CV (256 * T + n)) cw cb g b n j := by
  unfold bin
  simp only [conv_shift]

theorem cin_shift (SG : ℕ → Fin 2048 → EReal) (g b : Fin 1024 → EReal) (ws : Fin 8 → Fin 128 → Fin 128 → EReal) (sb : Fin 128 → Fin 1024 → EReal)
    (T n : ℕ) (j : Fin 1024) :
    cin SG g b ws sb (256 * T + n) j = cin (fun n => SG (256 * T + n)) g b ws sb n j := by
  unfold cin sp sv
  have h1 : (256 * T + n) % 128 = n % 128 := by omega
  have h2 : (256 * T + n) / 128 * 128 = 256 * T + n / 128 * 128 := by omega
  simp only [h1, h2, Nat.add_assoc]

end Cert.MixSpec
end
-- ==== Proof.MixG.lean ====
module

public import proofs.«01_k».proof.Proof.MixSpec

@[expose] public section

/-! The mixer call's result as one function of its arguments, and how its parts restrict to a block of 256 rows. -/

set_option maxRecDepth 16384

noncomputable section

namespace Cert.MixSpec

open Idealize.ShloMosaic Cert.Rows

theorem conv_blk (CV CV' : ℕ → Fin 2048 → EReal) (cw : Fin 31 → Fin 1024 → EReal) (T n : ℕ) (hn : n < 256)
    (h : ∀ m, m < 256 → CV m = CV' (256 * T + m)) (j : Fin 1024) : conv CV cw n j = conv CV' cw (256 * T + n) j := by
  rw [conv_shift]
  unfold conv
  refine Finset.sum_congr rfl fun p _ => ?_
  congr 1
  unfold halo
  split_ifs with hi
  · unfold glu
    rw [h _ (by omega)]
  · rfl

theorem bin_blk (CV CV' : ℕ → Fin 2048 → EReal) (cw : Fin 31 → Fin 1024 → EReal) (cb g b : Fin 1024 → EReal) (T n : ℕ) (hn : n < 256)
    (h : ∀ m, m < 256 → CV m = CV' (256 * T + m)) (j : Fin 1024) : bin CV cw cb g b n j = bin CV' cw cb g b (256 * T + n) j := by
  unfold bin
  simp only [conv_blk CV CV' cw T n hn h]

theorem cin_blk (SG SG' : ℕ → Fin 2048 → EReal) (g b : Fin 1024 → EReal) (ws : Fin 8 → Fin 128 → Fin 128 → EReal)
    (sb : Fin 128 → Fin 1024 → EReal) (T n : ℕ) (hn : n < 256) (h : ∀ m, m < 256 → SG m = SG' (256 * T + m)) (j : Fin 1024) :
    cin SG g b ws sb n j = cin SG' g b ws sb (256 * T + n) j := by
  rw [cin_shift]
  unfold cin sp
  rw [h n hn]
  congr 2
  refine Finset.sum_congr rfl fun i _ => ?_
  unfold sv
  rw [h _ (by have := i.isLt; omega)]

/-- Row `n` of the sequence (rows past the end do not matter). -/
def tokN (n : ℕ) : Fin 16384 := ⟨n % 16384, Nat.mod_lt _ (by norm_num)⟩

theorem tokN_val (s : Fin 16384) : tokN s.val = s := Fin.ext (Nat.mod_eq_of_lt s.isLt)

/-- A slice of the modulation array: batch `b`, part `p`. -/
def adaPart (ada : Vec Ideal ⟨3, ![2, 1, 6144]⟩ .f32) (p : ℕ) (hp : p < 6) (b : Fin 2) (j : Fin 1024) : EReal :=
  ada (ix3 b 0 ⟨p * 1024 + j.val, by omega⟩)

variable (h on : Vec Ideal ⟨3, ![2, 16384, 1024]⟩ .f32) (ada : Vec Ideal ⟨3, ![2, 1, 6144]⟩ .f32) (g : Vec Ideal ⟨1, ![1024]⟩ .f32) (w : Vec Ideal ⟨2, ![1024, 10272]⟩ .f32)
    (gg : Vec Ideal ⟨1, ![1024]⟩ .f32) (wa : Vec Ideal ⟨2, ![1024, 1024]⟩ .f32) (cw : Vec Ideal ⟨2, ![31, 1024]⟩ .f32) (cb cg cb' : Vec Ideal ⟨1, ![1024]⟩ .f32)
    (wb : Vec Ideal ⟨2, ![1024, 1024]⟩ .f32) (sg sb' : Vec Ideal ⟨1, ![1024]⟩ .f32) (ws : Vec Ideal ⟨3, ![8, 128, 128]⟩ .f32) (sb : Vec Ideal ⟨2, ![8, 128]⟩ .f32)
    (wc wo : Vec Ideal ⟨2, ![1024, 1024]⟩ .f32)

/-- The normalized, modulated rows. -/
def hm (b : Fin 2) (n : ℕ) : Fin 1024 → EReal :=
  modRow (fun k => h (ix3 b (tokN n) k)) (fun k => g (ix1 k)) (adaPart ada 1 (by omega) b) (adaPart ada 0 (by omega) b)

/-- Columns `lo …` of the input projection. -/
def proj (lo : ℕ) {p : ℕ} (hp : lo + p ≤ 10272) (b : Fin 2) (n : ℕ) (j : Fin p) : EReal :=
  rowMul (hm h ada g b n) (fun k (j : Fin p) => w (ix2 k ⟨lo + j.val, by omega⟩)) j

def R (b : Fin 2) : ℕ → Fin 1024 → EReal := proj h ada g w 2080 (by omega) b
def CV (b : Fin 2) : ℕ → Fin 2048 → EReal := proj h ada g w 3104 (by omega) b
def SG (b : Fin 2) : ℕ → Fin 2048 → EReal := proj h ada g w 5152 (by omega) b
def GT (b : Fin 2) : ℕ → Fin 3072 → EReal := proj h ada g w 7200 (by omega) b

/-- The merged rows. -/
def Y (b : Fin 2) (n : ℕ) (k : Fin 1024) : EReal :=
  merge (GT h ada g w b)
    (fun n => rowMul (ain (fun n k => on (ix3 b (tokN n) k)) (fun k => gg (ix1 k)) (R h ada g w b) n) (fun k j => wa (ix2 k j)))
    (fun n => rowMul (bin (CV h ada g w b) (fun p j => cw (ix2 p j)) (fun k => cb (ix1 k)) (fun k => cg (ix1 k)) (fun k => cb' (ix1 k)) n)
      (fun k j => wb (ix2 k j)))
    (fun n => rowMul (cin (SG h ada g w b) (fun k => sg (ix1 k)) (fun k => sb' (ix1 k)) (fun g r i => ws (ix3 g r i))
      (fun r j => sb (ix2 ⟨j.val / 128, by omega⟩ r)) n) (fun k j => wc (ix2 k j))) n k

/-- The result at batch `b`, token `s`, channel `j`. -/
def G (b : Fin 2) (s : Fin 16384) (j : Fin 1024) : EReal :=
  out (fun n k => h (ix3 b (tokN n) k)) (Y h on ada g w gg wa cw cb cg cb' wb sg sb' ws sb wc b) (adaPart ada 2 (by omega) b)
    (fun k j => wo (ix2 k j)) s.val j

end Cert.MixSpec
end
-- ==== Proof.MixRef.lean ====
module

public import proofs.«01_k».proof.Proof.MixG
public import proofs.«01_k».proof.Proof.Gen.MixRIdeal.Read

@[expose] public section

/-! The reference of the mixer call, stage by stage, at an index. -/

set_option maxRecDepth 16384

noncomputable section

namespace Cert.MixRef

open Idealize.ShloMosaic Idealize.ShloMosaic.TcCoe Idealize.SL.Sem Cert.MixRIdeal Cert.MixRIdeal.Read Cert.Rows Cert.MixSpec

variable (h on : Vec Ideal S2x16384x1024 .f32) (ada : Vec Ideal S2x1x6144 .f32) (g : Vec Ideal S1024 .f32) (w : Vec Ideal S1024x10272 .f32)
    (gg : Vec Ideal S1024 .f32) (wa : Vec Ideal S1024x1024 .f32) (cw : Vec Ideal S31x1024 .f32) (cb cg cb' : Vec Ideal S1024 .f32)
    (wb : Vec Ideal S1024x1024 .f32) (sg sb' : Vec Ideal S1024 .f32) (ws : Vec Ideal S8x128x128 .f32) (sb : Vec Ideal S8x128 .f32)
    (wc wo : Vec Ideal S1024x1024 .f32)

theorem p_at (b : Fin 2) (s : Fin 16384) (j : Fin 10272) :
    val_main_v25 (F := Ideal) h ada g w (ix3 b s j) = rowMul (hm h ada g b s.val) (fun k j => w (ix2 k j)) j := by
  unfold val_main_v25 val_main_v24 val_main_v22 val_main_v18 val_main_v15 val_main_v14 val_main_v13 val_main_v12 val_main_v10 val_main_v8
    val_main_v7 val_main_v6 val_main_cst val_main_v9 val_main_cst_0 val_main_v11 val_main_cst_1 val_main_v17 val_main_v16 val_main_v21
    val_main_v20 val_main_v19 val_main_cst_2 val_main_v1 val_main_v23 val_main_v0
  unfold hm
  rw [tokN_val]
  pointwise
  rfl

theorem proj_at (lo : ℕ) {p : ℕ} (hp : lo + p ≤ 10272) (b : Fin 2) (s : Fin 16384) (j : Fin p) (J : Fin 10272) (hJ : J.val = lo + j.val) :
    val_main_v25 (F := Ideal) h ada g w (ix3 b s J) = proj h ada g w lo hp b s.val j := by
  have e : J = ⟨lo + j.val, by omega⟩ := Fin.ext hJ
  rw [e]
  exact p_at h ada g w b s _

/-- The first branch's input. -/
theorem ain_at (b : Fin 2) (s : Fin 16384) (j : Fin 1024) :
    val_main_v38 (F := Ideal) h on ada g w gg (ix3 b s j)
      = ain (fun n k => on (ix3 b (tokN n) k)) (fun k => gg (ix1 k)) (R h ada g w b) s.val j := by
  unfold val_main_v38 val_main_v36 val_main_v35 val_main_v34 val_main_v37 val_main_call0_v5 val_main_call0_v4 val_main_call0_cst_0
    val_main_call0_v3 val_main_call0_v2 val_main_call0_cst val_main_call0_v1 val_main_call0_v0 val_main_v30
  generalize hU : val_main_v25 (F := Ideal) h ada g w = U
  have hU' : ∀ J, J.val = 2080 + j.val → U (ix3 b s J) = _ := fun J hJ => hU ▸ proj_at h ada g w 2080 (p := 1024) (by omega) b s j J hJ
  pointwise
  rw [hU' _ rfl]
  unfold ain
  simp only [tokN_val]
  rfl

/-- The gating unit's activation. -/
theorem act_at (b : Fin 2) (s : Fin 16384) (j : Fin 2048) :
    val_main_v309 (F := Ideal) h ada g w (ix3 b s j) = gelu (SG h ada g w b s.val j) := by
  unfold val_main_v309 val_main_v308 val_main_v306 val_main_v304 val_main_v303 val_main_v301 val_main_v300 val_main_v298 val_main_v297
    val_main_v299 val_main_cst_11 val_main_v302 val_main_cst_12 val_main_v305 val_main_cst_13 val_main_v307 val_main_cst_14
    val_main_v32
  generalize hU : val_main_v25 (F := Ideal) h ada g w = U
  have hU' : ∀ J, J.val = 5152 + j.val → U (ix3 b s J) = _ := fun J hJ => hU ▸ proj_at h ada g w 5152 (p := 2048) (by omega) b s j J hJ
  pointwise
  rw [hU' _ rfl]
  unfold gelu SG
  rw [half_val]

theorem half_at (b : Fin 2) (s : Fin 16384) (j : Fin 1024) :
    val_main_v311 (F := Ideal) h ada g w (ix3 b s j) = gelu (SG h ada g w b s.val ⟨1024 + j.val, by omega⟩) := by
  unfold val_main_v311
  have hU := act_at h ada g w
  generalize val_main_v309 (F := Ideal) h ada g w = U at hU
  pointwise
  rw [hU]

theorem scen_at (X : Fin 1024 → EReal) (b : Fin 2) (s : Fin 16384) (hX : ∀ j, val_main_v311 (F := Ideal) h ada g w (ix3 b s j) = X j) (j : Fin 1024) :
    val_main_v317 (F := Ideal) h ada g w (ix3 b s j) = X j - mean X := by
  unfold val_main_v317 val_main_v316 val_main_v315 val_main_v314 val_main_cst_16 val_main_v313 val_main_v312 val_main_cst_15
  generalize val_main_v311 (F := Ideal) h ada g w = U at hX
  pointwise
  simp only [hX]
  rfl

/-- The gating unit's second half, normalized. -/
theorem sv_at (b : Fin 2) (s : Fin 16384) (j : Fin 1024) :
    val_main_v333 (F := Ideal) h ada g w sg sb' (ix3 b s j) = sv (SG h ada g w b) (fun k => sg (ix1 k)) (fun k => sb' (ix1 k)) s.val j := by
  unfold val_main_v333 val_main_v332 val_main_v331 val_main_v330 val_main_v329 val_main_v328 val_main_v327 val_main_v326 val_main_v325
    val_main_v324 val_main_v323 val_main_cst_19 val_main_v322 val_main_v321 val_main_cst_18 val_main_v320 val_main_v319 val_main_cst_17
    val_main_v318
  obtain ⟨X, hX⟩ : ∃ X : Fin 1024 → EReal, X = fun j => gelu (SG h ada g w b s.val ⟨1024 + j.val, by omega⟩) := ⟨_, rfl⟩
  have hU := scen_at h ada g w X b s (fun j => (half_at h ada g w b s j).trans (congrFun hX j).symm)
  unfold sv
  rw [← hX]
  generalize val_main_v317 (F := Ideal) h ada g w = U at hU
  pointwise
  simp only [hU]
  rfl

/-- The mixed rows. -/
theorem sp_at (b : Fin 2) (s : Fin 16384) (j : Fin 1024) :
    val_main_v342 (F := Ideal) h ada g w sg sb' ws sb (ix3 b s j)
      = sp (SG h ada g w b) (fun k => sg (ix1 k)) (fun k => sb' (ix1 k)) (fun g r i => ws (ix3 g r i)) (fun r j => sb (ix2 ⟨j.val / 128, by omega⟩ r)) s.val j := by
  unfold val_main_v342 val_main_v341 val_main_v340 val_main_v339 val_main_v338 val_main_v337 val_main_v336 val_main_v335 val_main_v334
  have hU' := sv_at h ada g w sg sb'
  generalize val_main_v333 (F := Ideal) h ada g w sg sb' = U at hU'
  pointwise
  simp only [hU']
  unfold sp
  refine congrArg (fun x => x + _) (Finset.sum_congr rfl fun i _ => mul_comm _ _)

/-- The third branch's input. -/
theorem cin_at (b : Fin 2) (s : Fin 16384) (j : Fin 1024) :
    val_main_v343 (F := Ideal) h ada g w sg sb' ws sb (ix3 b s j)
      = cin (SG h ada g w b) (fun k => sg (ix1 k)) (fun k => sb' (ix1 k)) (fun g r i => ws (ix3 g r i)) (fun r j => sb (ix2 ⟨j.val / 128, by omega⟩ r)) s.val j := by
  unfold val_main_v343 val_main_v310
  have h1 := act_at h ada g w
  have h2 := sp_at h ada g w sg sb' ws sb
  generalize val_main_v309 (F := Ideal) h ada g w = U at h1
  generalize val_main_v342 (F := Ideal) h ada g w sg sb' ws sb = V at h2
  pointwise
  simp only [h1, h2]
  rfl

/-- The gates. -/
theorem gate_at (b : Fin 2) (s : Fin 16384) (j : Fin 3072) :
    val_main_v350 (F := Ideal) h ada g w (ix3 b s j) = sig (GT h ada g w b s.val j) := by
  unfold val_main_v350 val_main_v348 val_main_v346 val_main_v345 val_main_v33 val_main_v347 val_main_cst_20 val_main_v349 val_main_cst_21
  generalize hU : val_main_v25 (F := Ideal) h ada g w = U
  have hU' : ∀ J, J.val = 7200 + j.val → U (ix3 b s J) = _ := fun J hJ => hU ▸ proj_at h ada g w 7200 (p := 3072) (by omega) b s j J hJ
  pointwise
  rw [hU' _ rfl]
  rfl

end Cert.MixRef
end
-- ==== Proof.MixRefConv.lean ====
module

public import proofs.«01_k».proof.Proof.MixRef

@[expose] public section

/-! The convolution branch of the mixer reference, at an index. -/

set_option maxRecDepth 16384

noncomputable section

namespace Cert.MixRef

open Idealize.ShloMosaic Idealize.ShloMosaic.TcCoe Idealize.SL.Sem Cert.MixRIdeal Cert.MixRIdeal.Read Cert.Rows Cert.MixSpec

/-- A row less its mean, as the program writes it. -/
theorem cen_at (U : Vec Ideal S2x16384x1024 .f32) (X : Fin 1024 → EReal) (b : Fin 2) (s : Fin 16384) (hX : ∀ j, U (ix3 b s j) = X j) (j : Fin 1024) :
    subf U (broadcastInDim S2x16384x1024 ![0, 1, 2] Gen.bcast_S2x16384x1_S2x16384x1024_0_1_2
        (Host.divf (broadcastInDim S2x16384x1 ![0, 1] Gen.bcast_S2x16384_S2x16384x1_0_1
            (Host.reduceAdd U (constant (F := Ideal) S_ .f32 0x00000000#32) Gen.reducesTo_S2x16384x1024_S2x16384_d2 Gen.h_S_))
          (broadcastInDim S2x16384x1 ![] Gen.bcast_S_S2x16384x1 (constant (F := Ideal) S_ .f32 0x44800000#32)))) (ix3 b s j) = X j - mean X := by
  pointwise
  simp only [hX]
  rfl

/-- A centred row scaled to unit variance, times the gain, plus the offset, as the program writes it. -/
theorem lnc_at (U : Vec Ideal S2x16384x1024 .f32) (cg cb' : Vec Ideal S1024 .f32) (X : Fin 1024 → EReal) (b : Fin 2) (s : Fin 16384)
    (hU : ∀ j, U (ix3 b s j) = X j - mean X) (j : Fin 1024) :
    addf (mulf (mulf U (broadcastInDim S2x16384x1024 ![0, 1, 2] Gen.bcast_S2x16384x1_S2x16384x1024_0_1_2
          (Host.rsqrt (addf (Host.divf (broadcastInDim S2x16384x1 ![0, 1] Gen.bcast_S2x16384_S2x16384x1_0_1
              (Host.reduceAdd (mulf U U) (constant (F := Ideal) S_ .f32 0x00000000#32) Gen.reducesTo_S2x16384x1024_S2x16384_d2 Gen.h_S_))
              (broadcastInDim S2x16384x1 ![] Gen.bcast_S_S2x16384x1 (constant (F := Ideal) S_ .f32 0x44800000#32)))
            (broadcastInDim S2x16384x1 ![] Gen.bcast_S_S2x16384x1 (constant (F := Ideal) S_ .f32 0x358637BD#32))))))
          (broadcastInDim S2x16384x1024 ![0, 1, 2] Gen.bcast_S1x1x1024_S2x16384x1024_0_1_2
            (broadcastInDim S1x1x1024 ![2] Gen.bcast_S1024_S1x1x1024_2 cg)))
        (broadcastInDim S2x16384x1024 ![0, 1, 2] Gen.bcast_S1x1x1024_S2x16384x1024_0_1_2
          (broadcastInDim S1x1x1024 ![2] Gen.bcast_S1024_S1x1x1024_2 cb')) (ix3 b s j)
      = lnorm X (fun k => cg (ix1 k)) (fun k => cb' (ix1 k)) j := by
  pointwise
  simp only [hU]
  rfl

/-- An entry times its logistic, as the program writes it. -/
theorem silu_at (V : Vec Ideal S2x16384x1024 .f32) (y : EReal) (b : Fin 2) (s : Fin 16384) (j : Fin 1024) (hV : V (ix3 b s j) = y) :
    mulf V (Host.divf (broadcastInDim S2x16384x1024 ![] Gen.bcast_S_S2x16384x1024 (constant (F := Ideal) S_ .f32 0x3F800000#32))
        (addf (broadcastInDim S2x16384x1024 ![] Gen.bcast_S_S2x16384x1024 (constant (F := Ideal) S_ .f32 0x3F800000#32))
          (Host.exp (Host.negf V)))) (ix3 b s j) = silu y := by
  pointwise
  simp only [hV]
  rfl

variable (h on : Vec Ideal S2x16384x1024 .f32) (ada : Vec Ideal S2x1x6144 .f32) (g : Vec Ideal S1024 .f32) (w : Vec Ideal S1024x10272 .f32)
    (gg : Vec Ideal S1024 .f32) (wa : Vec Ideal S1024x1024 .f32) (cw : Vec Ideal S31x1024 .f32) (cb cg cb' : Vec Ideal S1024 .f32)
    (wb : Vec Ideal S1024x1024 .f32) (sg sb' : Vec Ideal S1024 .f32) (ws : Vec Ideal S8x128x128 .f32) (sb : Vec Ideal S8x128 .f32)
    (wc wo : Vec Ideal S1024x1024 .f32)

/-- The gated unit before the convolution. -/
theorem glu_at (b : Fin 2) (s : Fin 16384) (j : Fin 1024) :
    val_main_v48 (F := Ideal) h ada g w (ix3 b s j) = glu (CV h ada g w b) s.val j := by
  unfold val_main_v48 val_main_v47 val_main_v46 val_main_cst_4 val_main_v45 val_main_v44 val_main_cst_3 val_main_v43 val_main_v42
    val_main_v41 val_main_v40 val_main_v31
  generalize hU : val_main_v25 (F := Ideal) h ada g w = U
  have h0 : ∀ J, J.val = 3104 + j.val → U (ix3 b s J) = CV h ada g w b s.val ⟨j.val, by omega⟩ := fun J hJ => hU ▸ proj_at h ada g w 3104 (p := 2048) (by omega) b s ⟨j.val, by omega⟩ J hJ
  have h1 : ∀ J, J.val = 3104 + (1024 + j.val) → U (ix3 b s J) = CV h ada g w b s.val ⟨1024 + j.val, by omega⟩ := fun J hJ => hU ▸ proj_at h ada g w 3104 (p := 2048) (by omega) b s ⟨1024 + j.val, by omega⟩ J hJ
  pointwise
  rw [h0 _ rfl, h1 _ rfl]
  rfl

/-- The segments, 64 rows each. -/
theorem seg_at (z : Fin 512) (i : Fin 64) (j : Fin 1024) :
    val_main_v49 (F := Ideal) h ada g w (ix3 z i j) = glu (CV h ada g w ⟨z.val / 256, by omega⟩) (64 * (z.val % 256) + i.val) j := by
  unfold val_main_v49
  have hU' : ∀ (b : Fin 2) (s : Fin 16384) (j : Fin 1024) (n : ℕ), s.val = n → val_main_v48 (F := Ideal) h ada g w (ix3 b s j) = glu (CV h ada g w b) n j :=
    fun b s j n e => e ▸ glu_at h ada g w b s j
  generalize val_main_v48 (F := Ideal) h ada g w = U at hU'
  pointwise
  rw [hU' _ _ _ (64 * (z.val % 256) + i.val) (by show z.val % 256 * 64 + i.val = _; omega)]

/-- The padded segments. -/
theorem pad_at (z : Fin 512) (i : Fin 94) (j : Fin 1024) :
    val_main_v50 (F := Ideal) h ada g w (ix3 z i j) = halo (CV h ada g w ⟨z.val / 256, by omega⟩) (z.val % 256) (i.val + 1) j := by
  unfold val_main_v50 val_main_call1_v0 val_main_c
  have hU' := seg_at h ada g w
  generalize val_main_v49 (F := Ideal) h ada g w = U at hU'
  pointwise
  simp only [hU']
  have hz : (FloatOps.sitofp FTy.f32 0#32 : Ideal FTy.f32) = (0 : EReal) := by
    show ((((0#32 : BitVec 32).toInt : ℝ)) : EReal) = 0
    simp
  rw [hz]
  unfold halo
  by_cases hi : 15 ≤ i.val ∧ i.val - 15 < 64
  · rw [dif_pos hi, if_pos (by omega), show i.val + 1 - 16 = i.val - 15 by omega]
  · rw [dif_neg hi, if_neg (by omega)]

theorem slU (p : ℕ) (hp : p < 31) : S512x94x1024.Slices ![0, p, 0] S512x64x1024 :=
  ⟨rfl, fun a => by
    fin_cases a
    · show 0 + 512 ≤ 512; omega
    · show p + 64 ≤ 94; omega
    · show 0 + 1024 ≤ 1024; omega⟩

theorem slW (p : ℕ) (hp : p < 31) : S31x1024.Slices ![p, 0] S1x1024 :=
  ⟨rfl, fun a => by
    fin_cases a
    · show p + 1 ≤ 31; omega
    · show 0 + 1024 ≤ 1024; omega⟩

/-- One tap more. -/
theorem tap_step (U : FVec Ideal S512x94x1024 .f32) (acc : FVec Ideal S512x64x1024 .f32) (f : ℕ → EReal) (z : Fin 512) (i : Fin 64) (j : Fin 1024)
    (hf : ∀ p (hp : p < 31), U (ix3 z ⟨i.val + p, by omega⟩ j) * cw (ix2 ⟨p, hp⟩ j) = f p) (p : ℕ) (hp : p < 31)
    (h : acc (ix3 z i j) = ∑ q ∈ Finset.range p, f q) :
    (addf acc (mulf (extractStridedSlice S512x64x1024 ![0, p, 0] U (slU p hp))
      (broadcastInDim S512x64x1024 ![0, 1, 2] Gen.bcast_S1x1x1024_S512x64x1024_0_1_2
        (broadcastInDim S1x1x1024 ![2] Gen.bcast_S1024_S1x1x1024_2
          (shapeCast S1024 (extractStridedSlice S1x1024 ![p, 0] cw (slW p hp)) Gen.shapeCasts_S1x1024_S1024)))) : FVec Ideal S512x64x1024 .f32) (ix3 z i j)
      = ∑ q ∈ Finset.range (p + 1), f q := by
  rw [Finset.sum_range_succ, ← h, ← hf p hp]
  have e : (⟨p + i.val, by omega⟩ : Fin 94) = ⟨i.val + p, by omega⟩ := Fin.ext (Nat.add_comm _ _)
  pointwise
  rw [e]

/-- The convolution of a segment. -/
theorem conv_at (z : Fin 512) (i : Fin 64) (j : Fin 1024) :
    val_main_v268 (F := Ideal) h ada g w cw (ix3 z i j)
      = conv (CV h ada g w ⟨z.val / 256, by omega⟩) (fun p j => cw (ix2 p j)) (64 * (z.val % 256) + i.val) j := by
  obtain ⟨f, hf⟩ : ∃ f : ℕ → EReal, f = fun p => if hp : p < 31 then halo (CV h ada g w ⟨z.val / 256, by omega⟩) (z.val % 256) (i.val + p + 1) j * cw (ix2 ⟨p, hp⟩ j) else 0 := ⟨_, rfl⟩
  have hU : ∀ p (hp : p < 31), val_main_v50 (F := Ideal) h ada g w (ix3 z ⟨i.val + p, by omega⟩ j) * cw (ix2 ⟨p, hp⟩ j) = f p := fun p hp => by
    rw [hf, pad_at]
    simp only [dif_pos hp]
  have h0 : val_main_v57 (F := Ideal) (ix3 z i j) = ∑ q ∈ Finset.range 0, f q := by
    unfold val_main_v57 val_main_cst_5
    pointwise
    simp
  have hs : val_main_v268 (F := Ideal) h ada g w cw (ix3 z i j) = ∑ q ∈ Finset.range 31, f q := by
    have st := fun acc => tap_step cw (val_main_v50 (F := Ideal) h ada g w) acc f z i j hU
    iterate 31 refine st _ _ (by decide) ?_
    exact h0
  rw [hs, ← Fin.sum_univ_eq_sum_range f 31]
  unfold conv
  rw [show (64 * (z.val % 256) + i.val) / 64 = z.val % 256 by omega, show (64 * (z.val % 256) + i.val) % 64 = i.val by omega]
  refine Finset.sum_congr rfl fun p _ => ?_
  rw [hf]
  simp only [dif_pos p.isLt]

theorem convb_at (b : Fin 2) (s : Fin 16384) (j : Fin 1024) :
    val_main_v272 (F := Ideal) h ada g w cw cb (ix3 b s j) = conv (CV h ada g w b) (fun p j => cw (ix2 p j)) s.val j + cb (ix1 j) := by
  unfold val_main_v272 val_main_v271 val_main_v270 val_main_v269
  have hU' := conv_at h ada g w cw
  generalize val_main_v268 (F := Ideal) h ada g w cw = U at hU'
  pointwise
  simp only [hU']
  have hs := s.isLt
  have e1 : ∀ h', (⟨(b.val * 256 + s.val / 64) / 256, h'⟩ : Fin 2) = b := fun h' => Fin.ext (by show (b.val * 256 + s.val / 64) / 256 = b.val; omega)
  have e2 : 64 * ((b.val * 256 + s.val / 64) % 256) + s.val % 64 = s.val := by omega
  rw [e1, e2]

theorem bcen_at (X : Fin 1024 → EReal) (b : Fin 2) (s : Fin 16384) (hX : ∀ j, val_main_v272 (F := Ideal) h ada g w cw cb (ix3 b s j) = X j) (j : Fin 1024) :
    val_main_v278 (F := Ideal) h ada g w cw cb (ix3 b s j) = X j - mean X := by
  unfold val_main_v278 val_main_v277 val_main_v276 val_main_v275 val_main_cst_7 val_main_v274 val_main_v273 val_main_cst_6
  exact cen_at _ X b s hX j

/-- The second branch's input. -/
theorem bin_at (b : Fin 2) (s : Fin 16384) (j : Fin 1024) :
    val_main_v295 (F := Ideal) h ada g w cw cb cg cb' (ix3 b s j)
      = bin (CV h ada g w b) (fun p j => cw (ix2 p j)) (fun k => cb (ix1 k)) (fun k => cg (ix1 k)) (fun k => cb' (ix1 k)) s.val j := by
  unfold val_main_v295 val_main_call2_v5 val_main_call2_v3 val_main_call2_v1 val_main_call2_v0 val_main_call2_v2 val_main_call2_cst
    val_main_call2_v4 val_main_call2_cst_0 val_main_v294 val_main_v293 val_main_v292 val_main_v291 val_main_v290 val_main_v289
    val_main_v288 val_main_v287 val_main_v286 val_main_v285 val_main_v284 val_main_cst_10 val_main_v283 val_main_v282 val_main_cst_9
    val_main_v281 val_main_v280 val_main_cst_8 val_main_v279
  obtain ⟨X, hX⟩ : ∃ X : Fin 1024 → EReal, X = fun j => conv (CV h ada g w b) (fun p j => cw (ix2 p j)) s.val j + cb (ix1 j) := ⟨_, rfl⟩
  have hU := bcen_at h ada g w cw cb X b s (fun j => (convb_at h ada g w cw cb b s j).trans (congrFun hX j).symm)
  unfold bin
  rw [← hX]
  exact silu_at _ _ b s j (lnc_at _ cg cb' X b s hU j)

end Cert.MixRef
end
-- ==== Proof.MixTile.lean ====
module

public import proofs.«01_k».proof.Proof.Gen.MixKIdeal.Value
public import proofs.«01_k».proof.Proof.MixSpec

@[expose] public section

/-! One tile of the convolution: 64 rows of a segment and 128 lanes, the 31 taps grouped by their residue modulo 8. -/

set_option maxRecDepth 16384

noncomputable section

namespace Cert.MixTile

open Idealize.ShloMosaic Idealize.ShloMosaic.TcCoe Idealize.SL.Sem Cert.MixKIdeal Cert.MixKIdeal.Gen Cert.Rows Cert.MixSpec

/-- One tap: a row of weights times 72 rows. -/
def tap (w : Vec Ideal S1x128 .f32) (p : Vec Ideal S1x72x128 .f32) : FVec Ideal S72x128 .f32 :=
  mulf (broadcastTo S72x128 (shapeCast S1x128 w shapeCasts_S1x128_S1x128 : FVec Ideal S1x128 .f32) broadcasts_S1x128_S72x128)
    (shapeCast S72x128 p shapeCasts_S1x72x128_S72x128 : FVec Ideal S72x128 .f32)

/-- The four taps of residue `b`. -/
def four (W : ℕ → Vec Ideal S1x128 .f32) (P : ℕ → Vec Ideal S1x72x128 .f32) (b : ℕ) : FVec Ideal S72x128 .f32 :=
  addf (addf (addf (tap (W b) (P 0)) (tap (W (b + 8)) (P 1))) (tap (W (b + 16)) (P 2))) (tap (W (b + 24)) (P 3))

/-- The tile. -/
def tile (W : ℕ → Vec Ideal S1x128 .f32) (P : ℕ → Vec Ideal S1x72x128 .f32) : FVec Ideal S64x128 .f32 :=
  shapeCast S64x128 (addf (addf (addf (addf (addf (addf (addf
      (extractStridedSlice S64x128 ![0, 0] (addf (addf (tap (W 7) (P 1)) (tap (W 15) (P 2))) (tap (W 23) (P 3))) slices_S72x128_o0_0_S64x128)
      (extractStridedSlice S64x128 ![1, 0] (four W P 0) slices_S72x128_o1_0_S64x128))
      (extractStridedSlice S64x128 ![2, 0] (four W P 1) slices_S72x128_o2_0_S64x128))
      (extractStridedSlice S64x128 ![3, 0] (four W P 2) slices_S72x128_o3_0_S64x128))
      (extractStridedSlice S64x128 ![4, 0] (four W P 3) slices_S72x128_o4_0_S64x128))
      (extractStridedSlice S64x128 ![5, 0] (four W P 4) slices_S72x128_o5_0_S64x128))
      (extractStridedSlice S64x128 ![6, 0] (four W P 5) slices_S72x128_o6_0_S64x128))
      (extractStridedSlice S64x128 ![7, 0] (four W P 6) slices_S72x128_o7_0_S64x128)) shapeCasts_S64x128_S64x128

/-- The sum of 31 terms in the tile's order. -/
theorem order31 (f : ℕ → EReal) :
    (f 7 + f 15 + f 23) + (f 0 + f 8 + f 16 + f 24) + (f 1 + f 9 + f 17 + f 25) + (f 2 + f 10 + f 18 + f 26) + (f 3 + f 11 + f 19 + f 27)
      + (f 4 + f 12 + f 20 + f 28) + (f 5 + f 13 + f 21 + f 29) + (f 6 + f 14 + f 22 + f 30) = ∑ p : Fin 31, f p.val := by
  simp only [Fin.sum_univ_succ, Fin.val_succ, Fin.val_zero, Finset.univ_eq_empty, Finset.sum_empty, Nat.reduceAdd, zero_add, add_zero]
  ac_rfl

/-- The tile at row `r`, lane `l`: the sum over the taps. -/
theorem tile_at (W : ℕ → Vec Ideal S1x128 .f32) (P : ℕ → Vec Ideal S1x72x128 .f32) (r : Fin 64) (l : Fin 128) (c : ℕ → EReal) (x : ℕ → EReal)
    (hW : ∀ j, j < 31 → W j (ix2 0 l) = c j) (hP : ∀ a (i : Fin 72), a < 4 → P a (ix3 0 i l) = x (8 * a + i.val)) :
    tile W P (ix2 r l) = ∑ p : Fin 31, x (r.val + p.val + 1) * c p.val := by
  rw [← order31 fun p => x (r.val + p + 1) * c p]
  unfold tile four tap
  pointwise
  simp (discharger := omega) only [hW, hP]
  simp only [mul_comm (c _)]
  ring_nf

end Cert.MixTile
end
-- ==== Proof.MixRow.lean ====
module

public import proofs.«01_k».proof.Proof.MixTile
public import Idealize.ShloMosaic.Lib.Pointwise
public import Idealize.ShloMosaic.Lib.Pipeline.ReadBack

@[expose] public section

/-! The rows one grid step of the mixer computes: the input projections, read off the words of its run. -/

set_option maxRecDepth 16384

noncomputable section

namespace Cert.MixRow

open Idealize.ShloMosaic Idealize.ShloMosaic.TcCoe Idealize.SL.Sem Cert.MixKIdeal Cert.MixKIdeal.Gen Cert.Rows Cert.MixSpec

/-- Row `n` of a block of 256 rows (rows past the end do not matter). -/
def rowN (n : ℕ) : Fin 256 := ⟨n % 256, Nat.mod_lt _ (by norm_num)⟩

theorem rowN_val (r : Fin 256) : rowN r.val = r := Fin.ext (Nat.mod_eq_of_lt r.isLt)

/-- A matrix by its two indices. -/
def mat {n p : ℕ} (w : (⟨2, ![n, p]⟩ : Shape).Idx → EReal) (k : Fin n) (j : Fin p) : EReal := w (ix2 k j)

/-- The one row of a block. -/
def row (x : Vec Ideal S1x1024 .f32) (k : Fin 1024) : EReal := x (ix2 0 k)

/-- A row of the modulation block. -/
def mrow (x : Vec Ideal S1x8x1024 .f32) (p : Fin 8) (k : Fin 1024) : EReal := x (ix3 0 p k)

/-- The rows as an array. -/
def arr {n p : ℕ} (A : ℕ → Fin p → EReal) : (⟨2, ![n, p]⟩ : Shape).Idx → EReal := fun i => A (i 0).val (i 1)

theorem arr_at {n p : ℕ} (A : ℕ → Fin p → EReal) (r : Fin n) (j : Fin p) : arr A (ix2 r j) = A r.val j := rfl

/-- A read of a buffer whose stores are blocks of one function, through a box they cover. -/
theorem read_box {s : Shape} {e : EltTy} {κ : Kind} {sp : Space} (v : View sig κ sp s e) (L : List (View.Piece (Elt Ideal) s e)) (B : LoadRect s)
    (G : s.Idx → Elt Ideal e) (hG : View.PiecesOf G L) (hc : ∀ j, ∃ p ∈ L, B.idx j ∈ p.1.set) : v.readCov L B = fun j => G (B.idx j) := by
  rw [View.readCov_eq_canon']
  funext j
  exact View.canon_apply_of_pieces G L (hG.mem) _ (hc j)

/-- The whole of a buffer whose stores are blocks of one function. -/
theorem whole_box {n p : ℕ} {e : EltTy} {κ : Kind} {sp : Space} (v : View sig κ sp ⟨2, ![n, p]⟩ e) (L : List (View.Piece (Elt Ideal) ⟨2, ![n, p]⟩ e))
    (inb : ∀ a, (![0, 0] : Fin 2 → ℕ) a + (⟨2, ![n, p]⟩ : Shape).size a ≤ (⟨2, ![n, p]⟩ : Shape).size a)
    (G : (⟨2, ![n, p]⟩ : Shape).Idx → Elt Ideal e) (hG : View.PiecesOf G L) (hc : ∀ j, ∃ q ∈ L, j ∈ q.1.set) :
    v.readCov L (Rect.unit ![0, 0] (⟨2, ![n, p]⟩ : Shape).size inb).toLoadRect = G := by
  rw [read_box v L _ G hG fun j => hc _]
  exact View.ld_unit_zero (Val := Elt Ideal) (S := ⟨2, ![n, p]⟩) (off := ![0, 0]) (by funext a; fin_cases a <;> rfl) inb G

theorem emb2 {m n p q a b : ℕ} (inb : ∀ i, (![a, b] : Fin 2 → ℕ) i + (![p, q] : Fin 2 → ℕ) i ≤ (⟨2, ![m, n]⟩ : Shape).size i)
    (r : Fin p) (j : Fin q) (h0 : a + r.val < m) (h1 : b + j.val < n) :
    (Rect.unit (s := ⟨2, ![m, n]⟩) ![a, b] ![p, q] inb).emb (ix2 r j) = ix2 ⟨a + r.val, h0⟩ ⟨b + j.val, h1⟩ := by
  funext i
  apply Fin.ext
  rw [Rect.emb_apply]
  match i with
  | ⟨0, _⟩ => show a + 1 * r.val = a + r.val; omega
  | ⟨1, _⟩ => show b + 1 * j.val = b + j.val; omega

theorem emb3 {l m n o p q c a b : ℕ} (inb : ∀ i, (![c, a, b] : Fin 3 → ℕ) i + (![o, p, q] : Fin 3 → ℕ) i ≤ (⟨3, ![l, m, n]⟩ : Shape).size i)
    (t : Fin o) (r : Fin p) (j : Fin q) (h : c + t.val < l) (h0 : a + r.val < m) (h1 : b + j.val < n) :
    (Rect.unit (s := ⟨3, ![l, m, n]⟩) ![c, a, b] ![o, p, q] inb).emb (ix3 t r j) = ix3 ⟨c + t.val, h⟩ ⟨a + r.val, h0⟩ ⟨b + j.val, h1⟩ := by
  funext i
  apply Fin.ext
  rw [Rect.emb_apply]
  match i with
  | ⟨0, _⟩ => show c + 1 * t.val = c + t.val; omega
  | ⟨1, _⟩ => show a + 1 * r.val = a + r.val; omega
  | ⟨2, _⟩ => show b + 1 * j.val = b + j.val; omega

/-- A stored block whose entries are the rows' is a piece of the array of the rows. -/
theorem piece2 {m n p q a b : ℕ} (A : ℕ → Fin n → EReal) (P : (⟨2, ![p, q]⟩ : Shape).Idx → EReal)
    (inb : ∀ i, (![a, b] : Fin 2 → ℕ) i + (![p, q] : Fin 2 → ℕ) i ≤ (⟨2, ![m, n]⟩ : Shape).size i)
    (h : ∀ (r : Fin p) (j : Fin q) (hj : b + j.val < n), P (ix2 r j) = A (a + r.val) ⟨b + j.val, hj⟩) (x : (⟨2, ![p, q]⟩ : Shape).Idx) :
    P x = (arr A : (⟨2, ![m, n]⟩ : Shape).Idx → EReal) ((Rect.unit (s := ⟨2, ![m, n]⟩) ![a, b] ![p, q] inb).emb x) := by
  obtain ⟨r, j, rfl⟩ : ∃ (r : Fin p) (j : Fin q), x = ix2 r j := ⟨x 0, x 1, (ix2_eta x).symm⟩
  have h0 : a + p ≤ m := inb 0
  have h1 : b + q ≤ n := inb 1
  rw [emb2 inb r j (by omega) (by omega), h r j (by omega)]
  rfl

/-- A block of the array of the rows. -/
theorem ld2 {m n p q a b : ℕ} (A : ℕ → Fin n → EReal)
    (inb : ∀ i, (![a, b] : Fin 2 → ℕ) i + (![p, q] : Fin 2 → ℕ) i ≤ (⟨2, ![m, n]⟩ : Shape).size i) (r : Fin p) (j : Fin q) (h1 : b + j.val < n) :
    (arr A : (⟨2, ![m, n]⟩ : Shape).Idx → EReal) ((Rect.unit (s := ⟨2, ![m, n]⟩) ![a, b] ![p, q] inb).toLoadRect.idx (ix2 r j)) = A (a + r.val) ⟨b + j.val, h1⟩ := by
  have h0 : a + p ≤ m := inb 0
  exact congrArg (arr A) (emb2 inb r j (by omega) h1)

/-- A block of columns of a matrix product. -/
def dotc (X : Vec Ideal S256x1024 .bf16) (w : Vec Ideal S1024x256 .bf16) : FVec Ideal S256x256 .f32 :=
  shapeCast S256x256 (matmul (φ₁ := .bf16) dot_S256x1024_S1024x256_S256x256_1_0_0_1_n_n none X
    (shapeCast S1024x256 w shapeCasts_S1024x256_S1024x256 : FVec Ideal S1024x256 .bf16)
    (constant S256x256 .f32 0x00000000#32 : FVec Ideal S256x256 .f32) : FVec Ideal S256x256 .f32) shapeCasts_S256x256_S256x256

theorem dotc_at (X : Vec Ideal S256x1024 .bf16) (w : Vec Ideal S1024x256 .bf16) (r j : Fin 256) :
    dotc X w (ix2 r j) = ∑ k : Fin 1024, X (ix2 r k) * w (ix2 k j) := by
  unfold dotc
  pointwise

theorem dot_piece {N lo : ℕ} {sp : Space} (A : ℕ → Fin 1024 → EReal) (a : Memref sig .tc sp ⟨2, ![1024, N]⟩ .bf16) (h : a.IsWhole)
    (w : Vec Ideal ⟨2, ![1024, N]⟩ .bf16) (X : Vec Ideal S256x1024 .bf16) (hX : X = arr A)
    (inb : ∀ a, (![0, lo] : Fin 2 → ℕ) a + S1024x256.size a ≤ (⟨2, ![1024, N]⟩ : Shape).size a)
    (inb' : ∀ a, (![0, lo] : Fin 2 → ℕ) a + S256x256.size a ≤ (⟨2, ![256, N]⟩ : Shape).size a) (x : S256x256.Idx) :
    dotc X (a.view.readAt (Elt Ideal) (Rect.unit (s := ⟨2, ![1024, N]⟩) ![0, lo] S1024x256.size inb).toLoadRect (h.unread w)) x
      = (arr (fun n => rowMul (A n) (mat w)) : (⟨2, ![256, N]⟩ : Shape).Idx → EReal) ((Rect.unit (s := ⟨2, ![256, N]⟩) ![0, lo] S256x256.size inb').emb x) := by
  refine piece2 _ _ inb' (fun r j hj => ?_) x
  rw [View.readAt_eq_ld, h.read_unread, hX, dotc_at]
  show (∑ k : Fin 1024, _ : EReal) = ∑ k : Fin 1024, A (0 + r.val) k * w (ix2 k ⟨lo + j.val, hj⟩)
  refine Finset.sum_congr rfl fun k _ => congrArg₂ _ ?_ (congrArg w ?_)
  · rw [Nat.zero_add, arr_at]
  · refine (emb2 inb k j (by omega) hj).trans ?_
    congr 1
    exact Fin.ext (Nat.zero_add _)

variable (c : Dev nD) (i : grid0.Coords) (arg2 : Memref sig .tc .vmem S1x256x1024 .f32) (harg2 : arg2.IsWhole)
    (arg3 : Memref sig .tc .vmem S1x256x1024 .f32) (harg3 : arg3.IsWhole) (arg4 : Memref sig .tc .vmem S1x8x1024 .f32)
    (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1024x2048 .bf16)
    (harg7 : arg7.IsWhole) (arg8 : Memref sig .tc .vmem S1024x2048 .bf16) (harg8 : arg8.IsWhole)
    (arg9 : Memref sig .tc .vmem S1024x3072 .bf16) (harg9 : arg9.IsWhole) (arg10 : Memref sig .tc .vmem S1x1024 .f32)
    (harg10 : arg10.IsWhole) (arg11 : Memref sig .tc .vmem S1024x1024 .bf16) (harg11 : arg11.IsWhole)
    (arg12 : Memref sig .tc .vmem S32x1024 .f32) (harg12 : arg12.IsWhole) (arg13 : Memref sig .tc .vmem S1x1024 .f32)
    (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x1024 .bf16)
    (harg16 : arg16.IsWhole) (arg17 : Memref sig .tc .vmem S1x1024 .f32) (harg17 : arg17.IsWhole)
    (arg18 : Memref sig .tc .vmem S1x1024 .f32) (harg18 : arg18.IsWhole) (arg19 : Memref sig .tc .vmem S8x128x128 .bf16)
    (harg19 : arg19.IsWhole) (arg20 : Memref sig .tc .vmem S128x1024 .f32) (harg20 : arg20.IsWhole)
    (arg21 : Memref sig .tc .vmem S1024x1024 .bf16) (harg21 : arg21.IsWhole) (arg22 : Memref sig .tc .vmem S1024x1024 .bf16)
    (harg22 : arg22.IsWhole) (arg23 : Memref sig .tc .vmem S1x256x1024 .f32) (harg23 : arg23.IsWhole)
    (arg24 : Memref sig .tc .vmem S4x96x1024 .f32) (harg24 : arg24.IsWhole) (arg25 : Memref sig .tc .vmem S256x1024 .f32)
    (harg25 : arg25.IsWhole) (arg26 : Memref sig .tc .vmem S256x2048 .f32) (harg26 : arg26.IsWhole)
    (arg27 : Memref sig .tc .vmem S256x1024 .f32) (harg27 : arg27.IsWhole) (arg28 : Memref sig .tc .vmem S256x2048 .f32)
    (harg28 : arg28.IsWhole) (arg29 : Memref sig .tc .vmem S256x3072 .f32) (harg29 : arg29.IsWhole)
    (arg30 : Memref sig .tc .vmem S256x1024 .f32) (harg30 : arg30.IsWhole) (arg31 : Memref sig .tc .vmem S256x1024 .f32)
    (harg31 : arg31.IsWhole) (arg32 : Memref sig .tc .vmem S256x1024 .f32) (harg32 : arg32.IsWhole)
    (arg33 : Memref sig .tc .vmem S256x1024 .f32) (harg33 : arg33.IsWhole) (arg34 : Memref sig .tc .vmem S256x1024 .bf16)
    (harg34 : arg34.IsWhole) (arg35 : Memref sig .tc .vmem S256x1024 .bf16) (harg35 : arg35.IsWhole)
    (arg36 : Memref sig .tc .vmem S256x1024 .bf16) (harg36 : arg36.IsWhole) (arg37 : Memref sig .tc .vmem S256x1024 .bf16)
    (harg37 : arg37.IsWhole) (arg38 : Memref sig .tc .vmem S256x1024 .bf16) (harg38 : arg38.IsWhole) (x0 : Vec Ideal S1x256x1024 .f32)
    (x1 : Vec Ideal S1x256x1024 .f32) (x2 : Vec Ideal S1x8x1024 .f32) (x3 : Vec Ideal S1x1024 .f32) (x4 : Vec Ideal S1024x1024 .bf16)
    (x5 : Vec Ideal S1024x2048 .bf16) (x6 : Vec Ideal S1024x2048 .bf16) (x7 : Vec Ideal S1024x3072 .bf16)
    (x8 : Vec Ideal S1x1024 .f32) (x9 : Vec Ideal S1024x1024 .bf16) (x10 : Vec Ideal S32x1024 .f32) (x11 : Vec Ideal S1x1024 .f32)
    (x12 : Vec Ideal S1x1024 .f32) (x13 : Vec Ideal S1x1024 .f32) (x14 : Vec Ideal S1024x1024 .bf16) (x15 : Vec Ideal S1x1024 .f32)
    (x16 : Vec Ideal S1x1024 .f32) (x17 : Vec Ideal S8x128x128 .bf16) (x18 : Vec Ideal S128x1024 .f32)
    (x19 : Vec Ideal S1024x1024 .bf16) (x20 : Vec Ideal S1024x1024 .bf16)

/-- The normalized, modulated rows of the block. -/
def HM (n : ℕ) : Fin 1024 → EReal := modRow (fun k => x0 (ix3 0 (rowN n) k)) (row x3) (mrow x2 1) (mrow x2 0)

def R (n : ℕ) : Fin 1024 → EReal := rowMul (HM x0 x2 x3 n) (mat x4)
def CV (n : ℕ) : Fin 2048 → EReal := rowMul (HM x0 x2 x3 n) (mat x5)
def SG (n : ℕ) : Fin 2048 → EReal := rowMul (HM x0 x2 x3 n) (mat x6)
def GT (n : ℕ) : Fin 3072 → EReal := rowMul (HM x0 x2 x3 n) (mat x7)

theorem pay2_at (h : Vec Ideal S1x256x1024 .f32) (g : Vec Ideal S1x1024 .f32) (sh sc : Vec Ideal S1x1x1024 .f32) (r : Fin 256) (j : Fin 1024) :
    k0_pay2 h g sh sc (ix2 r j)
      = modRow (fun k => h (ix3 0 r k)) (fun k => g (ix2 0 k)) (fun k => sc (ix3 0 0 k)) (fun k => sh (ix3 0 0 k)) j := by
  unfold k0_pay2
  pointwise
  simp only [modRow, rms, one_val]

theorem hm_read : (kernelRun0_A.sl.v30 c arg2 harg2 arg4 harg4 arg5 harg5 arg34 x0 x2 x3) = arr (HM x0 x2 x3) := by
  unfold kernelRun0_A.sl.v30 kernelRun0_A.sl.HS10_1
  refine whole_box _ _ _ _ ⟨fun x => ?_, trivial⟩ (View.cover_of_tiledL _ S256x1024.size (by sl_kernel_rfl))
  refine piece2 _ _ (by decide) (fun r j hj => (pay2_at _ _ _ _ r j).trans ?_) x
  simp only [View.readAt_eq_ld, harg2.read_unread, harg4.read_unread, harg5.read_unread, Nat.zero_add]
  pointwise
  unfold HM
  rw [rowN_val]
  rfl

theorem r_read : (kernelRun0_A.sl.v1959 c arg2 harg2 arg4 harg4 arg5 harg5 arg6 harg6 arg27 arg34 x0 x2 x3 x4) = arr (R x0 x2 x3 x4) := by
  unfold kernelRun0_A.sl.v1959 kernelRun0_A.sl.HS3_4
  have hX := hm_read c arg2 harg2 arg4 harg4 arg5 harg5 arg34 x0 x2 x3
  exact whole_box _ _ _ _ ⟨dot_piece _ _ _ _ _ hX _ (by decide), dot_piece _ _ _ _ _ hX _ (by decide), dot_piece _ _ _ _ _ hX _ (by decide), dot_piece _ _ _ _ _ hX _ (by decide), trivial⟩
    (View.cover_of_tiledL _ S256x256.size (by sl_kernel_rfl))

theorem hs2_2_pieces : View.PiecesOf (arr (CV x0 x2 x3 x5)) (kernelRun0_A.sl.HS2_2 c arg2 harg2 arg4 harg4 arg5 harg5 arg7 harg7 arg34 x0 x2 x3 x5) := by
  unfold kernelRun0_A.sl.HS2_2
  have hX := hm_read c arg2 harg2 arg4 harg4 arg5 harg5 arg34 x0 x2 x3
  exact ⟨dot_piece _ _ _ _ _ hX _ (by decide), dot_piece _ _ _ _ _ hX _ (by decide), trivial⟩

theorem hs2_4_pieces : View.PiecesOf (arr (CV x0 x2 x3 x5)) (kernelRun0_A.sl.HS2_4 c arg2 harg2 arg4 harg4 arg5 harg5 arg7 harg7 arg34 x0 x2 x3 x5) := by
  unfold kernelRun0_A.sl.HS2_4
  have hX := hm_read c arg2 harg2 arg4 harg4 arg5 harg5 arg34 x0 x2 x3
  exact ⟨dot_piece _ _ _ _ _ hX _ (by decide), dot_piece _ _ _ _ _ hX _ (by decide), hs2_2_pieces c arg2 harg2 arg4 harg4 arg5 harg5 arg7 harg7 arg34 x0 x2 x3 x5⟩

theorem hs2_6_pieces : View.PiecesOf (arr (CV x0 x2 x3 x5)) (kernelRun0_A.sl.HS2_6 c arg2 harg2 arg4 harg4 arg5 harg5 arg7 harg7 arg34 x0 x2 x3 x5) := by
  unfold kernelRun0_A.sl.HS2_6
  have hX := hm_read c arg2 harg2 arg4 harg4 arg5 harg5 arg34 x0 x2 x3
  exact ⟨dot_piece _ _ _ _ _ hX _ (by decide), dot_piece _ _ _ _ _ hX _ (by decide), hs2_4_pieces c arg2 harg2 arg4 harg4 arg5 harg5 arg7 harg7 arg34 x0 x2 x3 x5⟩

theorem hs2_8_pieces : View.PiecesOf (arr (CV x0 x2 x3 x5)) (kernelRun0_A.sl.HS2_8 c arg2 harg2 arg4 harg4 arg5 harg5 arg7 harg7 arg34 x0 x2 x3 x5) := by
  unfold kernelRun0_A.sl.HS2_8
  have hX := hm_read c arg2 harg2 arg4 harg4 arg5 harg5 arg34 x0 x2 x3
  exact ⟨dot_piece _ _ _ _ _ hX _ (by decide), dot_piece _ _ _ _ _ hX _ (by decide), hs2_6_pieces c arg2 harg2 arg4 harg4 arg5 harg5 arg7 harg7 arg34 x0 x2 x3 x5⟩

theorem hs4_4_pieces : View.PiecesOf (arr (SG x0 x2 x3 x6)) (kernelRun0_A.sl.HS4_4 c arg2 harg2 arg4 harg4 arg5 harg5 arg8 harg8 arg34 x0 x2 x3 x6) := by
  unfold kernelRun0_A.sl.HS4_4
  have hX := hm_read c arg2 harg2 arg4 harg4 arg5 harg5 arg34 x0 x2 x3
  exact ⟨dot_piece _ _ _ _ _ hX _ (by decide), dot_piece _ _ _ _ _ hX _ (by decide), dot_piece _ _ _ _ _ hX _ (by decide),
    dot_piece _ _ _ _ _ hX _ (by decide), trivial⟩

theorem hs4_8_pieces : View.PiecesOf (arr (SG x0 x2 x3 x6)) (kernelRun0_A.sl.HS4_8 c arg2 harg2 arg4 harg4 arg5 harg5 arg8 harg8 arg34 x0 x2 x3 x6) := by
  unfold kernelRun0_A.sl.HS4_8
  have hX := hm_read c arg2 harg2 arg4 harg4 arg5 harg5 arg34 x0 x2 x3
  exact ⟨dot_piece _ _ _ _ _ hX _ (by decide), dot_piece _ _ _ _ _ hX _ (by decide), dot_piece _ _ _ _ _ hX _ (by decide),
    dot_piece _ _ _ _ _ hX _ (by decide), hs4_4_pieces c arg2 harg2 arg4 harg4 arg5 harg5 arg8 harg8 arg34 x0 x2 x3 x6⟩

theorem hs5_12_pieces : View.PiecesOf (arr (GT x0 x2 x3 x7)) (kernelRun0_A.sl.HS5_12 c arg2 harg2 arg4 harg4 arg5 harg5 arg9 harg9 arg34 x0 x2 x3 x7) := by
  unfold kernelRun0_A.sl.HS5_12
  have hX := hm_read c arg2 harg2 arg4 harg4 arg5 harg5 arg34 x0 x2 x3
  exact ⟨dot_piece _ _ _ _ _ hX _ (by decide), dot_piece _ _ _ _ _ hX _ (by decide), dot_piece _ _ _ _ _ hX _ (by decide),
    dot_piece _ _ _ _ _ hX _ (by decide), dot_piece _ _ _ _ _ hX _ (by decide), dot_piece _ _ _ _ _ hX _ (by decide),
    dot_piece _ _ _ _ _ hX _ (by decide), dot_piece _ _ _ _ _ hX _ (by decide), dot_piece _ _ _ _ _ hX _ (by decide),
    dot_piece _ _ _ _ _ hX _ (by decide), dot_piece _ _ _ _ _ hX _ (by decide), dot_piece _ _ _ _ _ hX _ (by decide), trivial⟩

end Cert.MixRow
end
-- ==== Proof.MixConv.lean ====
module

public import proofs.«01_k».proof.Proof.MixRow

@[expose] public section

/-! The convolution branch's words: the padded segments and the 32 tiles. -/

set_option maxRecDepth 16384

noncomputable section

namespace Cert.MixConv

open Idealize.ShloMosaic Idealize.ShloMosaic.TcCoe Idealize.SL.Sem Cert.MixKIdeal Cert.MixKIdeal.Gen Cert.Rows Cert.MixSpec Cert.MixRow Cert.MixTile

/-- The four padded segments of a block as an array. -/
def hl (A : ℕ → Fin 2048 → EReal) : S4x96x1024.Idx → EReal := fun i => halo A (i 0).val (i 1).val (i 2)

/-- The gated unit of two blocks of columns. -/
theorem glu_at (U V : Vec Ideal S256x256 .f32) (r j : Fin 256) : k0_pay6 U V (ix2 r j) = U (ix2 r j) * sig (V (ix2 r j)) := by
  unfold k0_pay6
  pointwise
  simp only [half_val, sigmoid_eq]
  rfl

/-- A segment's rows. -/
theorem halo_piece {lo : ℕ} (A : ℕ → Fin 2048 → EReal) (U V : Vec Ideal S256x256 .f32) (hlo : lo + 256 ≤ 1024)
    (hU : ∀ (r j : Fin 256), U (ix2 r j) = A r.val ⟨lo + j.val, by omega⟩)
    (hV : ∀ (r j : Fin 256), V (ix2 r j) = A r.val ⟨1024 + (lo + j.val), by omega⟩)
    (s o : ℕ) (ho : o = 64 * s) (sl : S256x256.Slices ![o, 0] S64x256) (sc : S64x256.ShapeCasts S1x64x256)
    (inb : ∀ i, (![s, 16, lo] : Fin 3 → ℕ) i + S1x64x256.size i ≤ S4x96x1024.size i) (x : S1x64x256.Idx) :
    (shapeCast S1x64x256 (extractStridedSlice S64x256 ![o, 0] (k0_pay6 U V) sl : FVec Ideal S64x256 .f32) sc : FVec Ideal S1x64x256 .f32) x
      = hl A ((Rect.unit (s := S4x96x1024) ![s, 16, lo] S1x64x256.size inb).emb x) := by
  obtain ⟨z, r, j, rfl⟩ : ∃ (z : Fin 1) (r : Fin 64) (j : Fin 256), x = ix3 z r j := ⟨x 0, x 1, x 2, (ix3_eta x).symm⟩
  obtain rfl : z = 0 := Subsingleton.elim _ _
  have hs : s + 1 ≤ 4 := inb 0
  rw [emb3 inb 0 r j (by show s + 0 < 4; omega) (by omega) (by omega)]
  generalize hW : k0_pay6 U V = W
  have hW' : ∀ r j, W (ix2 r j) = _ := fun r j => hW ▸ glu_at U V r j
  have e : (shapeCast S1x64x256 (extractStridedSlice S64x256 ![o, 0] W sl : FVec Ideal S64x256 .f32) sc : FVec Ideal S1x64x256 .f32) (ix3 0 r j)
      = W (ix2 ⟨o + r.val, by omega⟩ j) := by
    subst ho
    obtain rfl | rfl | rfl | rfl : s = 0 ∨ s = 1 ∨ s = 2 ∨ s = 3 := by omega
    all_goals pointwise
  rw [e, hW', hU, hV]
  show _ = halo A (s + 0) (16 + r.val) ⟨lo + j.val, _⟩
  unfold halo glu
  rw [if_pos (by omega)]
  have e2 : 64 * (s + 0) + (16 + r.val - 16) = o + r.val := by omega
  simp only [e2]

/-- The rows of zeros on either side. -/
theorem zero_piece {s a lo : ℕ} (A : ℕ → Fin 2048 → EReal) (sc : S16x256.ShapeCasts S1x16x256) (ha : a = 0 ∨ a = 80)
    (inb : ∀ i, (![s, a, lo] : Fin 3 → ℕ) i + S1x16x256.size i ≤ S4x96x1024.size i) (x : S1x16x256.Idx) :
    (shapeCast S1x16x256 (k0_pay7 (F := Ideal)) sc : FVec Ideal S1x16x256 .f32) x
      = hl A ((Rect.unit (s := S4x96x1024) ![s, a, lo] S1x16x256.size inb).emb x) := by
  obtain ⟨z, r, j, rfl⟩ : ∃ (z : Fin 1) (r : Fin 16) (j : Fin 256), x = ix3 z r j := ⟨x 0, x 1, x 2, (ix3_eta x).symm⟩
  have h0 : s + 1 ≤ 4 := inb 0
  have h1 : a + 16 ≤ 96 := inb 1
  have h2 : lo + 256 ≤ 1024 := inb 2
  rw [emb3 inb z r j (by omega) (by omega) (by omega)]
  show _ = halo A (s + z.val) (a + r.val) ⟨lo + j.val, _⟩
  unfold halo
  rw [if_neg (by omega)]
  unfold k0_pay7
  pointwise
  first | done | simp [Ideal.ofBits, Ideal.ieee]

variable (c : Dev nD) (i : grid0.Coords) (arg2 : Memref sig .tc .vmem S1x256x1024 .f32) (harg2 : arg2.IsWhole)
    (arg3 : Memref sig .tc .vmem S1x256x1024 .f32) (harg3 : arg3.IsWhole) (arg4 : Memref sig .tc .vmem S1x8x1024 .f32)
    (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1024x2048 .bf16)
    (harg7 : arg7.IsWhole) (arg8 : Memref sig .tc .vmem S1024x2048 .bf16) (harg8 : arg8.IsWhole)
    (arg9 : Memref sig .tc .vmem S1024x3072 .bf16) (harg9 : arg9.IsWhole) (arg10 : Memref sig .tc .vmem S1x1024 .f32)
    (harg10 : arg10.IsWhole) (arg11 : Memref sig .tc .vmem S1024x1024 .bf16) (harg11 : arg11.IsWhole)
    (arg12 : Memref sig .tc .vmem S32x1024 .f32) (harg12 : arg12.IsWhole) (arg13 : Memref sig .tc .vmem S1x1024 .f32)
    (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x1024 .bf16)
    (harg16 : arg16.IsWhole) (arg17 : Memref sig .tc .vmem S1x1024 .f32) (harg17 : arg17.IsWhole)
    (arg18 : Memref sig .tc .vmem S1x1024 .f32) (harg18 : arg18.IsWhole) (arg19 : Memref sig .tc .vmem S8x128x128 .bf16)
    (harg19 : arg19.IsWhole) (arg20 : Memref sig .tc .vmem S128x1024 .f32) (harg20 : arg20.IsWhole)
    (arg21 : Memref sig .tc .vmem S1024x1024 .bf16) (harg21 : arg21.IsWhole) (arg22 : Memref sig .tc .vmem S1024x1024 .bf16)
    (harg22 : arg22.IsWhole) (arg23 : Memref sig .tc .vmem S1x256x1024 .f32) (harg23 : arg23.IsWhole)
    (arg24 : Memref sig .tc .vmem S4x96x1024 .f32) (harg24 : arg24.IsWhole) (arg25 : Memref sig .tc .vmem S256x1024 .f32)
    (harg25 : arg25.IsWhole) (arg26 : Memref sig .tc .vmem S256x2048 .f32) (harg26 : arg26.IsWhole)
    (arg27 : Memref sig .tc .vmem S256x1024 .f32) (harg27 : arg27.IsWhole) (arg28 : Memref sig .tc .vmem S256x2048 .f32)
    (harg28 : arg28.IsWhole) (arg29 : Memref sig .tc .vmem S256x3072 .f32) (harg29 : arg29.IsWhole)
    (arg30 : Memref sig .tc .vmem S256x1024 .f32) (harg30 : arg30.IsWhole) (arg31 : Memref sig .tc .vmem S256x1024 .f32)
    (harg31 : arg31.IsWhole) (arg32 : Memref sig .tc .vmem S256x1024 .f32) (harg32 : arg32.IsWhole)
    (arg33 : Memref sig .tc .vmem S256x1024 .f32) (harg33 : arg33.IsWhole) (arg34 : Memref sig .tc .vmem S256x1024 .bf16)
    (harg34 : arg34.IsWhole) (arg35 : Memref sig .tc .vmem S256x1024 .bf16) (harg35 : arg35.IsWhole)
    (arg36 : Memref sig .tc .vmem S256x1024 .bf16) (harg36 : arg36.IsWhole) (arg37 : Memref sig .tc .vmem S256x1024 .bf16)
    (harg37 : arg37.IsWhole) (arg38 : Memref sig .tc .vmem S256x1024 .bf16) (harg38 : arg38.IsWhole) (x0 : Vec Ideal S1x256x1024 .f32)
    (x1 : Vec Ideal S1x256x1024 .f32) (x2 : Vec Ideal S1x8x1024 .f32) (x3 : Vec Ideal S1x1024 .f32) (x4 : Vec Ideal S1024x1024 .bf16)
    (x5 : Vec Ideal S1024x2048 .bf16) (x6 : Vec Ideal S1024x2048 .bf16) (x7 : Vec Ideal S1024x3072 .bf16)
    (x8 : Vec Ideal S1x1024 .f32) (x9 : Vec Ideal S1024x1024 .bf16) (x10 : Vec Ideal S32x1024 .f32) (x11 : Vec Ideal S1x1024 .f32)
    (x12 : Vec Ideal S1x1024 .f32) (x13 : Vec Ideal S1x1024 .f32) (x14 : Vec Ideal S1024x1024 .bf16) (x15 : Vec Ideal S1x1024 .f32)
    (x16 : Vec Ideal S1x1024 .f32) (x17 : Vec Ideal S8x128x128 .bf16) (x18 : Vec Ideal S128x1024 .f32)
    (x19 : Vec Ideal S1024x1024 .bf16) (x20 : Vec Ideal S1024x1024 .bf16)

theorem v44_at (r j : Fin 256) : (kernelRun0_A.sl.v44 c arg2 harg2 arg4 harg4 arg5 harg5 arg7 harg7 arg26 arg34 x0 x2 x3 x5) (ix2 r j) = CV x0 x2 x3 x5 r.val ⟨0 + j.val, by omega⟩ := by
  unfold kernelRun0_A.sl.v44
  rw [read_box _ _ _ _ (hs2_2_pieces c arg2 harg2 arg4 harg4 arg5 harg5 arg7 harg7 arg34 x0 x2 x3 x5) (LoadRect.cover_of_covChk _ _ (.leaf 1) (by sl_kernel_rfl))]
  exact (ld2 _ _ r j (by omega)).trans (congrArg₂ (CV x0 x2 x3 x5) (Nat.zero_add _) (Fin.ext (by show 0 + j.val = 0 + j.val; omega)))

theorem v45_at (r j : Fin 256) : (kernelRun0_A.sl.v45 c arg2 harg2 arg4 harg4 arg5 harg5 arg7 harg7 arg26 arg34 x0 x2 x3 x5) (ix2 r j) = CV x0 x2 x3 x5 r.val ⟨1024 + (0 + j.val), by omega⟩ := by
  unfold kernelRun0_A.sl.v45
  rw [read_box _ _ _ _ (hs2_2_pieces c arg2 harg2 arg4 harg4 arg5 harg5 arg7 harg7 arg34 x0 x2 x3 x5) (LoadRect.cover_of_covChk _ _ (.leaf 0) (by sl_kernel_rfl))]
  exact (ld2 _ _ r j (by omega)).trans (congrArg₂ (CV x0 x2 x3 x5) (Nat.zero_add _) (Fin.ext (by show 1024 + j.val = 1024 + (0 + j.val); omega)))

theorem v2100_at (r j : Fin 256) : (kernelRun0_A.sl.v2100 c arg2 harg2 arg4 harg4 arg5 harg5 arg7 harg7 arg26 arg34 x0 x2 x3 x5) (ix2 r j) = CV x0 x2 x3 x5 r.val ⟨256 + j.val, by omega⟩ := by
  unfold kernelRun0_A.sl.v2100
  rw [read_box _ _ _ _ (hs2_4_pieces c arg2 harg2 arg4 harg4 arg5 harg5 arg7 harg7 arg34 x0 x2 x3 x5) (LoadRect.cover_of_covChk _ _ (.leaf 1) (by sl_kernel_rfl))]
  exact (ld2 _ _ r j (by omega)).trans (congrArg₂ (CV x0 x2 x3 x5) (Nat.zero_add _) (Fin.ext (by show 256 + j.val = 256 + j.val; omega)))

theorem v2101_at (r j : Fin 256) : (kernelRun0_A.sl.v2101 c arg2 harg2 arg4 harg4 arg5 harg5 arg7 harg7 arg26 arg34 x0 x2 x3 x5) (ix2 r j) = CV x0 x2 x3 x5 r.val ⟨1024 + (256 + j.val), by omega⟩ := by
  unfold kernelRun0_A.sl.v2101
  rw [read_box _ _ _ _ (hs2_4_pieces c arg2 harg2 arg4 harg4 arg5 harg5 arg7 harg7 arg34 x0 x2 x3 x5) (LoadRect.cover_of_covChk _ _ (.leaf 0) (by sl_kernel_rfl))]
  exact (ld2 _ _ r j (by omega)).trans (congrArg₂ (CV x0 x2 x3 x5) (Nat.zero_add _) (Fin.ext (by show 1280 + j.val = 1024 + (256 + j.val); omega)))

theorem v4230_at (r j : Fin 256) : (kernelRun0_A.sl.v4230 c arg2 harg2 arg4 harg4 arg5 harg5 arg7 harg7 arg26 arg34 x0 x2 x3 x5) (ix2 r j) = CV x0 x2 x3 x5 r.val ⟨512 + j.val, by omega⟩ := by
  unfold kernelRun0_A.sl.v4230
  rw [read_box _ _ _ _ (hs2_6_pieces c arg2 harg2 arg4 harg4 arg5 harg5 arg7 harg7 arg34 x0 x2 x3 x5) (LoadRect.cover_of_covChk _ _ (.leaf 1) (by sl_kernel_rfl))]
  exact (ld2 _ _ r j (by omega)).trans (congrArg₂ (CV x0 x2 x3 x5) (Nat.zero_add _) (Fin.ext (by show 512 + j.val = 512 + j.val; omega)))

theorem v4231_at (r j : Fin 256) : (kernelRun0_A.sl.v4231 c arg2 harg2 arg4 harg4 arg5 harg5 arg7 harg7 arg26 arg34 x0 x2 x3 x5) (ix2 r j) = CV x0 x2 x3 x5 r.val ⟨1024 + (512 + j.val), by omega⟩ := by
  unfold kernelRun0_A.sl.v4231
  rw [read_box _ _ _ _ (hs2_6_pieces c arg2 harg2 arg4 harg4 arg5 harg5 arg7 harg7 arg34 x0 x2 x3 x5) (LoadRect.cover_of_covChk _ _ (.leaf 0) (by sl_kernel_rfl))]
  exact (ld2 _ _ r j (by omega)).trans (congrArg₂ (CV x0 x2 x3 x5) (Nat.zero_add _) (Fin.ext (by show 1536 + j.val = 1024 + (512 + j.val); omega)))

theorem v6139_at (r j : Fin 256) : (kernelRun0_A.sl.v6139 c arg2 harg2 arg4 harg4 arg5 harg5 arg7 harg7 arg26 arg34 x0 x2 x3 x5) (ix2 r j) = CV x0 x2 x3 x5 r.val ⟨768 + j.val, by omega⟩ := by
  unfold kernelRun0_A.sl.v6139
  rw [read_box _ _ _ _ (hs2_8_pieces c arg2 harg2 arg4 harg4 arg5 harg5 arg7 harg7 arg34 x0 x2 x3 x5) (LoadRect.cover_of_covChk _ _ (.leaf 1) (by sl_kernel_rfl))]
  exact (ld2 _ _ r j (by omega)).trans (congrArg₂ (CV x0 x2 x3 x5) (Nat.zero_add _) (Fin.ext (by show 768 + j.val = 768 + j.val; omega)))

theorem v6140_at (r j : Fin 256) : (kernelRun0_A.sl.v6140 c arg2 harg2 arg4 harg4 arg5 harg5 arg7 harg7 arg26 arg34 x0 x2 x3 x5) (ix2 r j) = CV x0 x2 x3 x5 r.val ⟨1024 + (768 + j.val), by omega⟩ := by
  unfold kernelRun0_A.sl.v6140
  rw [read_box _ _ _ _ (hs2_8_pieces c arg2 harg2 arg4 harg4 arg5 harg5 arg7 harg7 arg34 x0 x2 x3 x5) (LoadRect.cover_of_covChk _ _ (.leaf 0) (by sl_kernel_rfl))]
  exact (ld2 _ _ r j (by omega)).trans (congrArg₂ (CV x0 x2 x3 x5) (Nat.zero_add _) (Fin.ext (by show 1792 + j.val = 1024 + (768 + j.val); omega)))

theorem hs0_12_pieces : View.PiecesOf (hl (CV x0 x2 x3 x5)) (kernelRun0_A.sl.HS0_12 c arg2 harg2 arg4 harg4 arg5 harg5 arg7 harg7 arg26 arg34 x0 x2 x3 x5) := by
  unfold kernelRun0_A.sl.HS0_12
  have hp := halo_piece (lo := 0) (CV x0 x2 x3 x5) _ _ (by decide) (v44_at c arg2 harg2 arg4 harg4 arg5 harg5 arg7 harg7 arg26 arg34 x0 x2 x3 x5) (v45_at c arg2 harg2 arg4 harg4 arg5 harg5 arg7 harg7 arg26 arg34 x0 x2 x3 x5)
  exact ⟨zero_piece _ shapeCasts_S16x256_S1x16x256 (.inr rfl) (by decide), hp 3 192 rfl slices_S256x256_o192_0_S64x256 shapeCasts_S64x256_S1x64x256 (by decide), zero_piece _ shapeCasts_S16x256_S1x16x256 (.inl rfl) (by decide),
    zero_piece _ shapeCasts_S16x256_S1x16x256 (.inr rfl) (by decide), hp 2 128 rfl slices_S256x256_o128_0_S64x256 shapeCasts_S64x256_S1x64x256 (by decide), zero_piece _ shapeCasts_S16x256_S1x16x256 (.inl rfl) (by decide),
    zero_piece _ shapeCasts_S16x256_S1x16x256 (.inr rfl) (by decide), hp 1 64 rfl slices_S256x256_o64_0_S64x256 shapeCasts_S64x256_S1x64x256 (by decide), zero_piece _ shapeCasts_S16x256_S1x16x256 (.inl rfl) (by decide),
    zero_piece _ shapeCasts_S16x256_S1x16x256 (.inr rfl) (by decide), hp 0 0 rfl slices_S256x256_o0_0_S64x256 shapeCasts_S64x256_S1x64x256 (by decide), zero_piece _ shapeCasts_S16x256_S1x16x256 (.inl rfl) (by decide), trivial⟩

theorem hs0_24_pieces : View.PiecesOf (hl (CV x0 x2 x3 x5)) (kernelRun0_A.sl.HS0_24 c arg2 harg2 arg4 harg4 arg5 harg5 arg7 harg7 arg26 arg34 x0 x2 x3 x5) := by
  unfold kernelRun0_A.sl.HS0_24
  have hp := halo_piece (lo := 256) (CV x0 x2 x3 x5) _ _ (by decide) (v2100_at c arg2 harg2 arg4 harg4 arg5 harg5 arg7 harg7 arg26 arg34 x0 x2 x3 x5) (v2101_at c arg2 harg2 arg4 harg4 arg5 harg5 arg7 harg7 arg26 arg34 x0 x2 x3 x5)
  exact ⟨zero_piece _ shapeCasts_S16x256_S1x16x256 (.inr rfl) (by decide), hp 3 192 rfl slices_S256x256_o192_0_S64x256 shapeCasts_S64x256_S1x64x256 (by decide), zero_piece _ shapeCasts_S16x256_S1x16x256 (.inl rfl) (by decide),
    zero_piece _ shapeCasts_S16x256_S1x16x256 (.inr rfl) (by decide), hp 2 128 rfl slices_S256x256_o128_0_S64x256 shapeCasts_S64x256_S1x64x256 (by decide), zero_piece _ shapeCasts_S16x256_S1x16x256 (.inl rfl) (by decide),
    zero_piece _ shapeCasts_S16x256_S1x16x256 (.inr rfl) (by decide), hp 1 64 rfl slices_S256x256_o64_0_S64x256 shapeCasts_S64x256_S1x64x256 (by decide), zero_piece _ shapeCasts_S16x256_S1x16x256 (.inl rfl) (by decide),
    zero_piece _ shapeCasts_S16x256_S1x16x256 (.inr rfl) (by decide), hp 0 0 rfl slices_S256x256_o0_0_S64x256 shapeCasts_S64x256_S1x64x256 (by decide), zero_piece _ shapeCasts_S16x256_S1x16x256 (.inl rfl) (by decide), hs0_12_pieces c arg2 harg2 arg4 harg4 arg5 harg5 arg7 harg7 arg26 arg34 x0 x2 x3 x5⟩

theorem hs0_36_pieces : View.PiecesOf (hl (CV x0 x2 x3 x5)) (kernelRun0_A.sl.HS0_36 c arg2 harg2 arg4 harg4 arg5 harg5 arg7 harg7 arg26 arg34 x0 x2 x3 x5) := by
  unfold kernelRun0_A.sl.HS0_36
  have hp := halo_piece (lo := 512) (CV x0 x2 x3 x5) _ _ (by decide) (v4230_at c arg2 harg2 arg4 harg4 arg5 harg5 arg7 harg7 arg26 arg34 x0 x2 x3 x5) (v4231_at c arg2 harg2 arg4 harg4 arg5 harg5 arg7 harg7 arg26 arg34 x0 x2 x3 x5)
  exact ⟨zero_piece _ shapeCasts_S16x256_S1x16x256 (.inr rfl) (by decide), hp 3 192 rfl slices_S256x256_o192_0_S64x256 shapeCasts_S64x256_S1x64x256 (by decide), zero_piece _ shapeCasts_S16x256_S1x16x256 (.inl rfl) (by decide),
    zero_piece _ shapeCasts_S16x256_S1x16x256 (.inr rfl) (by decide), hp 2 128 rfl slices_S256x256_o128_0_S64x256 shapeCasts_S64x256_S1x64x256 (by decide), zero_piece _ shapeCasts_S16x256_S1x16x256 (.inl rfl) (by decide),
    zero_piece _ shapeCasts_S16x256_S1x16x256 (.inr rfl) (by decide), hp 1 64 rfl slices_S256x256_o64_0_S64x256 shapeCasts_S64x256_S1x64x256 (by decide), zero_piece _ shapeCasts_S16x256_S1x16x256 (.inl rfl) (by decide),
    zero_piece _ shapeCasts_S16x256_S1x16x256 (.inr rfl) (by decide), hp 0 0 rfl slices_S256x256_o0_0_S64x256 shapeCasts_S64x256_S1x64x256 (by decide), zero_piece _ shapeCasts_S16x256_S1x16x256 (.inl rfl) (by decide), hs0_24_pieces c arg2 harg2 arg4 harg4 arg5 harg5 arg7 harg7 arg26 arg34 x0 x2 x3 x5⟩

theorem hs0_48_pieces : View.PiecesOf (hl (CV x0 x2 x3 x5)) (kernelRun0_A.sl.HS0_48 c arg2 harg2 arg4 harg4 arg5 harg5 arg7 harg7 arg26 arg34 x0 x2 x3 x5) := by
  unfold kernelRun0_A.sl.HS0_48
  have hp := halo_piece (lo := 768) (CV x0 x2 x3 x5) _ _ (by decide) (v6139_at c arg2 harg2 arg4 harg4 arg5 harg5 arg7 harg7 arg26 arg34 x0 x2 x3 x5) (v6140_at c arg2 harg2 arg4 harg4 arg5 harg5 arg7 harg7 arg26 arg34 x0 x2 x3 x5)
  exact ⟨zero_piece _ shapeCasts_S16x256_S1x16x256 (.inr rfl) (by decide), hp 3 192 rfl slices_S256x256_o192_0_S64x256 shapeCasts_S64x256_S1x64x256 (by decide), zero_piece _ shapeCasts_S16x256_S1x16x256 (.inl rfl) (by decide),
    zero_piece _ shapeCasts_S16x256_S1x16x256 (.inr rfl) (by decide), hp 2 128 rfl slices_S256x256_o128_0_S64x256 shapeCasts_S64x256_S1x64x256 (by decide), zero_piece _ shapeCasts_S16x256_S1x16x256 (.inl rfl) (by decide),
    zero_piece _ shapeCasts_S16x256_S1x16x256 (.inr rfl) (by decide), hp 1 64 rfl slices_S256x256_o64_0_S64x256 shapeCasts_S64x256_S1x64x256 (by decide), zero_piece _ shapeCasts_S16x256_S1x16x256 (.inl rfl) (by decide),
    zero_piece _ shapeCasts_S16x256_S1x16x256 (.inr rfl) (by decide), hp 0 0 rfl slices_S256x256_o0_0_S64x256 shapeCasts_S64x256_S1x64x256 (by decide), zero_piece _ shapeCasts_S16x256_S1x16x256 (.inl rfl) (by decide), hs0_36_pieces c arg2 harg2 arg4 harg4 arg5 harg5 arg7 harg7 arg26 arg34 x0 x2 x3 x5⟩

end Cert.MixConv
end
-- ==== Proof.MixCout.lean ====
module

public import proofs.«01_k».proof.Proof.MixConv

@[expose] public section

/-! The 32 tiles of the convolution, and what the branch reads back from them. -/

set_option maxRecDepth 16384

noncomputable section

namespace Cert.MixCout

open Idealize.ShloMosaic Idealize.ShloMosaic.TcCoe Idealize.SL.Sem Cert.MixKIdeal Cert.MixKIdeal.Gen Cert.Rows Cert.MixSpec Cert.MixRow Cert.MixTile Cert.MixConv

/-- The taps' weights. -/
def taps (x : Vec Ideal S32x1024 .f32) (p : Fin 31) (j : Fin 1024) : EReal := x (ix2 ⟨p.val, by omega⟩ j)

/-- Row `j` of the weights, lanes from `lo`. -/
def wt (a : Memref sig .tc .vmem S32x1024 .f32) (h : a.IsWhole) (x : Vec Ideal S32x1024 .f32) (lo : ℕ) (hlo : lo + 128 ≤ 1024) (j : ℕ) :
    Vec Ideal S1x128 .f32 :=
  a.view.readAt (Elt Ideal) (Rect.unit (s := S32x1024) ![j % 32, lo] S1x128.size
    (fun i => match i with
      | ⟨0, _⟩ => (show j % 32 + 1 ≤ 32 by omega)
      | ⟨1, _⟩ => (show lo + 128 ≤ 1024 from hlo))).toLoadRect (h.unread x)

/-- The 72 rows of segment `s` from row `8 a`, lanes from `lo`. -/
def pt (v : Memref sig .tc .vmem S4x96x1024 .f32) (L : List (View.Piece (Elt Ideal) S4x96x1024 .f32)) (s lo : ℕ) (hs : s + 1 ≤ 4) (hlo : lo + 128 ≤ 1024)
    (a : ℕ) : Vec Ideal S1x72x128 .f32 :=
  v.view.readCov L (Rect.unit (s := S4x96x1024) ![s, 8 * (a % 4), lo] S1x72x128.size
    (fun i => match i with
      | ⟨0, _⟩ => (show s + 1 ≤ 4 from hs)
      | ⟨1, _⟩ => (show 8 * (a % 4) + 72 ≤ 96 by omega)
      | ⟨2, _⟩ => (show lo + 128 ≤ 1024 from hlo))).toLoadRect

theorem tile_piece {lo : ℕ} (A : ℕ → Fin 2048 → EReal) (a12 : Memref sig .tc .vmem S32x1024 .f32) (h12 : a12.IsWhole) (x10 : Vec Ideal S32x1024 .f32)
    (a24 : Memref sig .tc .vmem S4x96x1024 .f32) (L : List (View.Piece (Elt Ideal) S4x96x1024 .f32)) (hlo : lo + 128 ≤ 1024)
    (hc : ∀ i : S4x96x1024.Idx, lo ≤ (i 2).val → (i 2).val < lo + 128 → View.canon L i = hl A i) (s o : ℕ) (hs : s + 1 ≤ 4) (ho : o = 64 * s)
    (inb : ∀ i, (![o, lo] : Fin 2 → ℕ) i + S64x128.size i ≤ S256x1024.size i) (x : S64x128.Idx) :
    tile (wt a12 h12 x10 lo hlo) (pt a24 L s lo hs hlo) x
      = (arr (conv A (taps x10)) : S256x1024.Idx → EReal) ((Rect.unit (s := S256x1024) ![o, lo] S64x128.size inb).emb x) := by
  refine piece2 _ _ inb (fun r l hj => ?_) x
  rw [tile_at _ _ r l (fun p => x10 (ix2 ⟨p % 32, Nat.mod_lt _ (by norm_num)⟩ ⟨lo + l.val, hj⟩)) (fun n => halo A s n ⟨lo + l.val, hj⟩)]
  · unfold conv
    refine Finset.sum_congr rfl fun p _ => ?_
    have e1 : (o + r.val) / 64 = s := by omega
    have e2 : (o + r.val) % 64 = r.val := by omega
    have e3 : p.val % 32 = p.val := by omega
    simp only [e1, e2, e3, taps]
  · intro j hj
    unfold wt
    rw [View.readAt_eq_ld, h12.read_unread]
    refine congrArg x10 ((emb2 _ 0 l (by show j % 32 + 0 < 32; omega) (by omega)).trans ?_)
    rfl
  · intro a i ha
    unfold pt
    rw [View.readCov_eq_canon']
    have e : a % 4 = a := Nat.mod_eq_of_lt ha
    refine (congrArg (View.canon L) (emb3 _ 0 i l (by show s + 0 < 4; omega) (by omega) (by omega))).trans ?_
    refine (hc _ (Nat.le_add_right _ _) (by show lo + l.val < lo + 128; omega)).trans ?_
    show halo A (s + 0) (8 * (a % 4) + i.val) ⟨lo + l.val, _⟩ = _
    rw [e]
    rfl

/-- The cover of one segment's 96 rows by three stores. -/
def seg (n : ℕ) : LoadRect.Cov := .split 1 16 (.leaf (n + 2)) (.split 1 64 (.leaf (n + 1)) (.leaf n))

/-- The cover of the four segments by twelve stores. -/
def segs : LoadRect.Cov := .split 0 1 (seg 9) (.split 0 1 (seg 6) (.split 0 1 (seg 3) (seg 0)))

theorem canon_of_segs {c : ℕ} (A : ℕ → Fin 2048 → EReal) (L : List (View.Piece (Elt Ideal) S4x96x1024 .f32)) (hL : View.PiecesOf (hl A) L)
    (inb : ∀ i, (![0, 0, c] : Fin 3 → ℕ) i + (![4, 96, 256] : Fin 3 → ℕ) i ≤ S4x96x1024.size i)
    (h : LoadRect.covChk (L.map Sigma.fst) (Rect.unit (s := S4x96x1024) ![0, 0, c] ![4, 96, 256] inb).toLoadRect segs = true)
    (i : S4x96x1024.Idx) (h0 : c ≤ (i 2).val) (h1 : (i 2).val < c + 256) : View.canon L i = hl A i := by
  refine View.canon_apply_of_pieces (hl A) L hL.mem i ?_
  obtain ⟨s, r, l, rfl⟩ : ∃ (s : Fin 4) (r : Fin 96) (l : Fin 1024), i = ix3 s r l := ⟨i 0, i 1, i 2, (ix3_eta i).symm⟩
  have h0' : c ≤ l.val := h0
  have h1' : l.val < c + 256 := h1
  have e : (Rect.unit (s := S4x96x1024) ![0, 0, c] ![4, 96, 256] inb).emb (ix3 s r ⟨l.val - c, by omega⟩) = ix3 s r l := by
    rw [emb3 inb s r _ (by omega) (by omega) (by show c + (l.val - c) < 1024; omega)]
    congr 1
    · exact Fin.ext (Nat.zero_add _)
    · exact Fin.ext (Nat.zero_add _)
    · exact Fin.ext (by show c + (l.val - c) = l.val; omega)
  rw [← e]
  exact LoadRect.cover_of_covChk L _ segs h _

variable (c : Dev nD) (i : grid0.Coords) (arg2 : Memref sig .tc .vmem S1x256x1024 .f32) (harg2 : arg2.IsWhole)
    (arg3 : Memref sig .tc .vmem S1x256x1024 .f32) (harg3 : arg3.IsWhole) (arg4 : Memref sig .tc .vmem S1x8x1024 .f32)
    (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1024x2048 .bf16)
    (harg7 : arg7.IsWhole) (arg8 : Memref sig .tc .vmem S1024x2048 .bf16) (harg8 : arg8.IsWhole)
    (arg9 : Memref sig .tc .vmem S1024x3072 .bf16) (harg9 : arg9.IsWhole) (arg10 : Memref sig .tc .vmem S1x1024 .f32)
    (harg10 : arg10.IsWhole) (arg11 : Memref sig .tc .vmem S1024x1024 .bf16) (harg11 : arg11.IsWhole)
    (arg12 : Memref sig .tc .vmem S32x1024 .f32) (harg12 : arg12.IsWhole) (arg13 : Memref sig .tc .vmem S1x1024 .f32)
    (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x1024 .bf16)
    (harg16 : arg16.IsWhole) (arg17 : Memref sig .tc .vmem S1x1024 .f32) (harg17 : arg17.IsWhole)
    (arg18 : Memref sig .tc .vmem S1x1024 .f32) (harg18 : arg18.IsWhole) (arg19 : Memref sig .tc .vmem S8x128x128 .bf16)
    (harg19 : arg19.IsWhole) (arg20 : Memref sig .tc .vmem S128x1024 .f32) (harg20 : arg20.IsWhole)
    (arg21 : Memref sig .tc .vmem S1024x1024 .bf16) (harg21 : arg21.IsWhole) (arg22 : Memref sig .tc .vmem S1024x1024 .bf16)
    (harg22 : arg22.IsWhole) (arg23 : Memref sig .tc .vmem S1x256x1024 .f32) (harg23 : arg23.IsWhole)
    (arg24 : Memref sig .tc .vmem S4x96x1024 .f32) (harg24 : arg24.IsWhole) (arg25 : Memref sig .tc .vmem S256x1024 .f32)
    (harg25 : arg25.IsWhole) (arg26 : Memref sig .tc .vmem S256x2048 .f32) (harg26 : arg26.IsWhole)
    (arg27 : Memref sig .tc .vmem S256x1024 .f32) (harg27 : arg27.IsWhole) (arg28 : Memref sig .tc .vmem S256x2048 .f32)
    (harg28 : arg28.IsWhole) (arg29 : Memref sig .tc .vmem S256x3072 .f32) (harg29 : arg29.IsWhole)
    (arg30 : Memref sig .tc .vmem S256x1024 .f32) (harg30 : arg30.IsWhole) (arg31 : Memref sig .tc .vmem S256x1024 .f32)
    (harg31 : arg31.IsWhole) (arg32 : Memref sig .tc .vmem S256x1024 .f32) (harg32 : arg32.IsWhole)
    (arg33 : Memref sig .tc .vmem S256x1024 .f32) (harg33 : arg33.IsWhole) (arg34 : Memref sig .tc .vmem S256x1024 .bf16)
    (harg34 : arg34.IsWhole) (arg35 : Memref sig .tc .vmem S256x1024 .bf16) (harg35 : arg35.IsWhole)
    (arg36 : Memref sig .tc .vmem S256x1024 .bf16) (harg36 : arg36.IsWhole) (arg37 : Memref sig .tc .vmem S256x1024 .bf16)
    (harg37 : arg37.IsWhole) (arg38 : Memref sig .tc .vmem S256x1024 .bf16) (harg38 : arg38.IsWhole) (x0 : Vec Ideal S1x256x1024 .f32)
    (x1 : Vec Ideal S1x256x1024 .f32) (x2 : Vec Ideal S1x8x1024 .f32) (x3 : Vec Ideal S1x1024 .f32) (x4 : Vec Ideal S1024x1024 .bf16)
    (x5 : Vec Ideal S1024x2048 .bf16) (x6 : Vec Ideal S1024x2048 .bf16) (x7 : Vec Ideal S1024x3072 .bf16)
    (x8 : Vec Ideal S1x1024 .f32) (x9 : Vec Ideal S1024x1024 .bf16) (x10 : Vec Ideal S32x1024 .f32) (x11 : Vec Ideal S1x1024 .f32)
    (x12 : Vec Ideal S1x1024 .f32) (x13 : Vec Ideal S1x1024 .f32) (x14 : Vec Ideal S1024x1024 .bf16) (x15 : Vec Ideal S1x1024 .f32)
    (x16 : Vec Ideal S1x1024 .f32) (x17 : Vec Ideal S8x128x128 .bf16) (x18 : Vec Ideal S128x1024 .f32)
    (x19 : Vec Ideal S1024x1024 .bf16) (x20 : Vec Ideal S1024x1024 .bf16)

theorem hs0_12_canon (i : S4x96x1024.Idx) (h0 : 0 ≤ (i 2).val) (h1 : (i 2).val < 0 + 256) :
    View.canon (kernelRun0_A.sl.HS0_12 c arg2 harg2 arg4 harg4 arg5 harg5 arg7 harg7 arg26 arg34 x0 x2 x3 x5) i = hl (CV x0 x2 x3 x5) i :=
  canon_of_segs _ _ (hs0_12_pieces c arg2 harg2 arg4 harg4 arg5 harg5 arg7 harg7 arg26 arg34 x0 x2 x3 x5) (by decide) (by sl_kernel_rfl) i h0 h1

theorem hs0_24_canon (i : S4x96x1024.Idx) (h0 : 256 ≤ (i 2).val) (h1 : (i 2).val < 256 + 256) :
    View.canon (kernelRun0_A.sl.HS0_24 c arg2 harg2 arg4 harg4 arg5 harg5 arg7 harg7 arg26 arg34 x0 x2 x3 x5) i = hl (CV x0 x2 x3 x5) i :=
  canon_of_segs _ _ (hs0_24_pieces c arg2 harg2 arg4 harg4 arg5 harg5 arg7 harg7 arg26 arg34 x0 x2 x3 x5) (by decide) (by sl_kernel_rfl) i h0 h1

theorem hs0_36_canon (i : S4x96x1024.Idx) (h0 : 512 ≤ (i 2).val) (h1 : (i 2).val < 512 + 256) :
    View.canon (kernelRun0_A.sl.HS0_36 c arg2 harg2 arg4 harg4 arg5 harg5 arg7 harg7 arg26 arg34 x0 x2 x3 x5) i = hl (CV x0 x2 x3 x5) i :=
  canon_of_segs _ _ (hs0_36_pieces c arg2 harg2 arg4 harg4 arg5 harg5 arg7 harg7 arg26 arg34 x0 x2 x3 x5) (by decide) (by sl_kernel_rfl) i h0 h1

theorem hs0_48_canon (i : S4x96x1024.Idx) (h0 : 768 ≤ (i 2).val) (h1 : (i 2).val < 768 + 256) :
    View.canon (kernelRun0_A.sl.HS0_48 c arg2 harg2 arg4 harg4 arg5 harg5 arg7 harg7 arg26 arg34 x0 x2 x3 x5) i = hl (CV x0 x2 x3 x5) i :=
  canon_of_segs _ _ (hs0_48_pieces c arg2 harg2 arg4 harg4 arg5 harg5 arg7 harg7 arg26 arg34 x0 x2 x3 x5) (by decide) (by sl_kernel_rfl) i h0 h1

set_option maxHeartbeats 4000000 in
theorem hs1_pieces : View.PiecesOf (arr (conv (CV x0 x2 x3 x5) (taps x10))) (kernelRun0_A.sl.HS1_32 c arg2 harg2 arg4 harg4 arg5 harg5 arg7 harg7 arg12 harg12 arg24 arg26 arg34 x0 x2 x3 x5 x10) := by
  unfold kernelRun0_A.sl.HS1_32
  have t0 := tile_piece (lo := 0) (CV x0 x2 x3 x5) arg12 harg12 x10 arg24 _ (by decide) fun i h0 h1 =>
    hs0_12_canon c arg2 harg2 arg4 harg4 arg5 harg5 arg7 harg7 arg26 arg34 x0 x2 x3 x5 i (by omega) (by omega)
  have t1 := tile_piece (lo := 128) (CV x0 x2 x3 x5) arg12 harg12 x10 arg24 _ (by decide) fun i h0 h1 =>
    hs0_12_canon c arg2 harg2 arg4 harg4 arg5 harg5 arg7 harg7 arg26 arg34 x0 x2 x3 x5 i (by omega) (by omega)
  have t2 := tile_piece (lo := 256) (CV x0 x2 x3 x5) arg12 harg12 x10 arg24 _ (by decide) fun i h0 h1 =>
    hs0_24_canon c arg2 harg2 arg4 harg4 arg5 harg5 arg7 harg7 arg26 arg34 x0 x2 x3 x5 i (by omega) (by omega)
  have t3 := tile_piece (lo := 384) (CV x0 x2 x3 x5) arg12 harg12 x10 arg24 _ (by decide) fun i h0 h1 =>
    hs0_24_canon c arg2 harg2 arg4 harg4 arg5 harg5 arg7 harg7 arg26 arg34 x0 x2 x3 x5 i (by omega) (by omega)
  have t4 := tile_piece (lo := 512) (CV x0 x2 x3 x5) arg12 harg12 x10 arg24 _ (by decide) fun i h0 h1 =>
    hs0_36_canon c arg2 harg2 arg4 harg4 arg5 harg5 arg7 harg7 arg26 arg34 x0 x2 x3 x5 i (by omega) (by omega)
  have t5 := tile_piece (lo := 640) (CV x0 x2 x3 x5) arg12 harg12 x10 arg24 _ (by decide) fun i h0 h1 =>
    hs0_36_canon c arg2 harg2 arg4 harg4 arg5 harg5 arg7 harg7 arg26 arg34 x0 x2 x3 x5 i (by omega) (by omega)
  have t6 := tile_piece (lo := 768) (CV x0 x2 x3 x5) arg12 harg12 x10 arg24 _ (by decide) fun i h0 h1 =>
    hs0_48_canon c arg2 harg2 arg4 harg4 arg5 harg5 arg7 harg7 arg26 arg34 x0 x2 x3 x5 i (by omega) (by omega)
  have t7 := tile_piece (lo := 896) (CV x0 x2 x3 x5) arg12 harg12 x10 arg24 _ (by decide) fun i h0 h1 =>
    hs0_48_canon c arg2 harg2 arg4 harg4 arg5 harg5 arg7 harg7 arg26 arg34 x0 x2 x3 x5 i (by omega) (by omega)
  exact ⟨t7 3 192 (by decide) rfl (by decide), t7 2 128 (by decide) rfl (by decide), t7 1 64 (by decide) rfl (by decide), t7 0 0 (by decide) rfl (by decide),
    t6 3 192 (by decide) rfl (by decide), t6 2 128 (by decide) rfl (by decide), t6 1 64 (by decide) rfl (by decide), t6 0 0 (by decide) rfl (by decide),
    t5 3 192 (by decide) rfl (by decide), t5 2 128 (by decide) rfl (by decide), t5 1 64 (by decide) rfl (by decide), t5 0 0 (by decide) rfl (by decide),
    t4 3 192 (by decide) rfl (by decide), t4 2 128 (by decide) rfl (by decide), t4 1 64 (by decide) rfl (by decide), t4 0 0 (by decide) rfl (by decide),
    t3 3 192 (by decide) rfl (by decide), t3 2 128 (by decide) rfl (by decide), t3 1 64 (by decide) rfl (by decide), t3 0 0 (by decide) rfl (by decide),
    t2 3 192 (by decide) rfl (by decide), t2 2 128 (by decide) rfl (by decide), t2 1 64 (by decide) rfl (by decide), t2 0 0 (by decide) rfl (by decide),
    t1 3 192 (by decide) rfl (by decide), t1 2 128 (by decide) rfl (by decide), t1 1 64 (by decide) rfl (by decide), t1 0 0 (by decide) rfl (by decide),
    t0 3 192 (by decide) rfl (by decide), t0 2 128 (by decide) rfl (by decide), t0 1 64 (by decide) rfl (by decide), t0 0 0 (by decide) rfl (by decide),
    trivial⟩

end Cert.MixCout
end
-- ==== Proof.MixPay.lean ====
module

public import proofs.«01_k».proof.Proof.MixRow

@[expose] public section

/-! The mixer's elementwise blocks at an index. -/

set_option maxRecDepth 16384

noncomputable section

namespace Cert.MixPay

open Idealize.ShloMosaic Idealize.ShloMosaic.TcCoe Idealize.SL.Sem Cert.MixKIdeal Cert.MixKIdeal.Gen Cert.Rows Cert.MixSpec Cert.MixRow

theorem ain_pay (on : Vec Ideal S1x256x1024 .f32) (gg : Vec Ideal S1x1024 .f32) (R : Vec Ideal S256x1024 .f32) (r : Fin 256) (j : Fin 1024) :
    k0_pay160 on gg R (ix2 r j) = on (ix3 0 r j) * gg (ix2 0 j) * silu (R (ix2 r j)) := by
  unfold k0_pay160
  pointwise
  simp only [half_val, sigmoid_eq]
  rfl

theorem sv_pay (X : Vec Ideal S128x1024 .f32) (g b : Vec Ideal S1x1024 .f32) (r : Fin 128) (j : Fin 1024) :
    k0_pay163 X g b (ix2 r j) = lnorm (fun k => gelu (X (ix2 r k))) (row g) (row b) j := by
  unfold k0_pay163
  pointwise
  simp only [half_val, one_val, mul_comm (X _) (X _ * X _)]
  rfl

theorem bin_pay (X : Vec Ideal S128x1024 .f32) (cb g b : Vec Ideal S1x1024 .f32) (r : Fin 128) (j : Fin 1024) :
    k0_pay667 (k0_pay664 X cb) (k0_pay665 g) (k0_pay666 b) (ix2 r j)
      = silu (lnorm (fun k => X (ix2 r k) + row cb k) (row g) (row b) j) := by
  unfold k0_pay667 k0_pay664 k0_pay665 k0_pay666
  pointwise
  simp only [half_val, sigmoid_eq]
  rfl

theorem bin_pay_split (X : Vec Ideal S128x1024 .f32) (cb g b : Vec Ideal S1x1024 .f32) (r : Fin 128) (j : Fin 1024) :
    k0_pay661 (k0_pay659 X cb g b) (k0_pay660 X cb g b) (Ideal.ofBits FTy.f32 0x3F000000#32) (ix2 r j)
      = silu (lnorm (fun k => X (ix2 r k) + row cb k) (row g) (row b) j) := by
  unfold k0_pay661 k0_pay660 k0_pay659
  pointwise
  simp only [half_val, sigmoid_eq]
  rfl

theorem cin_pay (U S : Vec Ideal S128x1024 .f32) (r : Fin 128) (j : Fin 1024) :
    k0_pay345 U S (ix2 r j) = gelu (U (ix2 r j)) * S (ix2 r j) := by
  unfold k0_pay345
  pointwise
  simp only [half_val, one_val, mul_comm (U _) (U _ * U _)]
  rfl

theorem merge_pay (a ya b yb c yc : Vec Ideal S256x256 .f32) (r j : Fin 256) :
    k0_pay675 a ya b yb c yc (ix2 r j)
      = sig (a (ix2 r j)) * ya (ix2 r j) + sig (b (ix2 r j)) * yb (ix2 r j) + sig (c (ix2 r j)) * yc (ix2 r j) := by
  unfold k0_pay675
  pointwise
  simp only [half_val, sigmoid_eq]
  rfl

theorem out_pay (x : Vec Ideal S1x256x256 .f32) (ga : Vec Ideal S1x1x256 .f32) (y : Vec Ideal S256x1024 .bf16) (w : Vec Ideal S1024x256 .bf16) (r j : Fin 256) :
    k0_pay690 x ga y w (ix3 0 r j) = x (ix3 0 r j) + ga (ix3 0 0 j) * ∑ k : Fin 1024, y (ix2 r k) * w (ix2 k j) := by
  unfold k0_pay690
  pointwise

/-- The products of one group's weights with both chunks' columns `o …`. -/
def mixd (V0 V1 : FVec Ideal S128x1024 .bf16) (w : Vec Ideal S1x128x128 .bf16) (o : ℕ) (sl : S128x1024.Slices ![0, o] S128x128) : FVec Ideal S128x256 .f32 :=
  matmul (φ₁ := .bf16) dot_S128x128_S128x256_S128x256_1_0_0_1_n_n none (shapeCast S128x128 w shapeCasts_S1x128x128_S128x128 : FVec Ideal S128x128 .bf16)
    (concatenate S128x256 1 [⟨S128x128, (extractStridedSlice S128x128 ![0, o] V0 sl : FVec Ideal S128x128 .bf16)⟩,
      ⟨S128x128, (extractStridedSlice S128x128 ![0, o] V1 sl : FVec Ideal S128x128 .bf16)⟩] concatenates_S128x128_S128x128_S128x256_d1 : FVec Ideal S128x256 .bf16)
    (constant S128x256 .f32 0x00000000#32 : FVec Ideal S128x256 .f32)

/-- One chunk's block of the mixed rows. -/
def mixs (D : FVec Ideal S128x256 .f32) (s : Vec Ideal S128x128 .f32) (o : ℕ) (sl : S128x256.Slices ![0, o] S128x128) : FVec Ideal S128x128 .f32 :=
  shapeCast S128x128 (addf (extractStridedSlice S128x128 ![0, o] D sl : FVec Ideal S128x128 .f32)
    (shapeCast S128x128 s shapeCasts_S128x128_S128x128 : FVec Ideal S128x128 .f32) : FVec Ideal S128x128 .f32) shapeCasts_S128x128_S128x128

theorem slice_at {e : EltTy} (V : Vec Ideal S128x1024 e) (o : ℕ) (sl : S128x1024.Slices ![0, o] S128x128) (r l : Fin 128) (h : o + l.val < 1024) :
    (extractStridedSlice S128x128 ![0, o] V sl : Vec Ideal S128x128 e) (ix2 r l) = V (ix2 r ⟨o + l.val, h⟩) := by
  pointwise

theorem mixd0 (V0 V1 : FVec Ideal S128x1024 .bf16) (w : Vec Ideal S1x128x128 .bf16) (o : ℕ) (sl : S128x1024.Slices ![0, o] S128x128) (r l : Fin 128)
    (h : o + l.val < 1024) :
    mixd V0 V1 w o sl (ix2 r ⟨l.val, by omega⟩) = ∑ i : Fin 128, w (ix3 0 r i) * V0 (ix2 i ⟨o + l.val, h⟩) := by
  unfold mixd
  pointwise

theorem mixd1 (V0 V1 : FVec Ideal S128x1024 .bf16) (w : Vec Ideal S1x128x128 .bf16) (o : ℕ) (sl : S128x1024.Slices ![0, o] S128x128) (r l : Fin 128)
    (h : o + l.val < 1024) :
    mixd V0 V1 w o sl (ix2 r ⟨128 + l.val, by omega⟩) = ∑ i : Fin 128, w (ix3 0 r i) * V1 (ix2 i ⟨o + l.val, h⟩) := by
  unfold mixd
  pointwise

theorem mixs0 (D : FVec Ideal S128x256 .f32) (s : Vec Ideal S128x128 .f32) (sl : S128x256.Slices ![0, 0] S128x128) (r l : Fin 128) :
    mixs D s 0 sl (ix2 r l) = D (ix2 r ⟨l.val, by omega⟩) + s (ix2 r l) := by
  unfold mixs
  pointwise

theorem mixs1 (D : FVec Ideal S128x256 .f32) (s : Vec Ideal S128x128 .f32) (sl : S128x256.Slices ![0, 128] S128x128) (r l : Fin 128) :
    mixs D s 128 sl (ix2 r l) = D (ix2 r ⟨128 + l.val, by omega⟩) + s (ix2 r l) := by
  unfold mixs
  pointwise

end Cert.MixPay
end
-- ==== Proof.MixTail.lean ====
module

public import proofs.«01_k».proof.Proof.MixCout
public import proofs.«01_k».proof.Proof.MixPay

@[expose] public section

/-! The words after the projections: the three branches, their merge and the output. -/

set_option maxRecDepth 16384

noncomputable section

namespace Cert.MixTail

open Idealize.ShloMosaic Idealize.ShloMosaic.TcCoe Idealize.SL.Sem Cert.MixKIdeal Cert.MixKIdeal.Gen Cert.Rows Cert.MixSpec Cert.MixRow Cert.MixCout Cert.MixPay

/-- A block read from a buffer whose stores are blocks of an array of rows, at an index. -/
theorem cov_at {m n p q a b : ℕ} {κ : Kind} {sp : Space} (v : View sig κ sp ⟨2, ![m, n]⟩ .f32)
    (L : List (View.Piece (Elt Ideal) ⟨2, ![m, n]⟩ .f32)) (A : ℕ → Fin n → EReal) (hL : View.PiecesOf (arr A : (⟨2, ![m, n]⟩ : Shape).Idx → EReal) L)
    (inb : ∀ i, (![a, b] : Fin 2 → ℕ) i + (![p, q] : Fin 2 → ℕ) i ≤ (⟨2, ![m, n]⟩ : Shape).size i)
    (hc : ∀ j, ∃ w ∈ L, (Rect.unit (s := ⟨2, ![m, n]⟩) ![a, b] ![p, q] inb).toLoadRect.idx j ∈ w.1.set) (r : Fin p) (j : Fin q) (h1 : b + j.val < n) :
    v.readCov L (Rect.unit (s := ⟨2, ![m, n]⟩) ![a, b] ![p, q] inb).toLoadRect (ix2 r j) = A (a + r.val) ⟨b + j.val, h1⟩ := by
  rw [read_box v L _ _ hL hc]
  exact ld2 A inb r j h1

/-- A whole row read. -/
theorem rd_row (a : Memref sig .tc .vmem S1x1024 .f32) (h : a.IsWhole) (x : Vec Ideal S1x1024 .f32)
    (inb : ∀ i, (![0, 0] : Fin 2 → ℕ) i + S1x1024.size i ≤ S1x1024.size i) :
    a.view.readAt (Elt Ideal) (Rect.unit (s := S1x1024) ![0, 0] S1x1024.size inb).toLoadRect (h.unread x) = x := by
  rw [View.readAt_eq_ld, h.read_unread]
  exact View.ld_unit_zero (Val := Elt Ideal) (S := S1x1024) (off := ![0, 0]) (by funext a; fin_cases a <;> rfl) inb x

variable (c : Dev nD) (i : grid0.Coords) (arg2 : Memref sig .tc .vmem S1x256x1024 .f32) (harg2 : arg2.IsWhole)
    (arg3 : Memref sig .tc .vmem S1x256x1024 .f32) (harg3 : arg3.IsWhole) (arg4 : Memref sig .tc .vmem S1x8x1024 .f32)
    (harg4 : arg4.IsWhole) (arg5 : Memref sig .tc .vmem S1x1024 .f32) (harg5 : arg5.IsWhole)
    (arg6 : Memref sig .tc .vmem S1024x1024 .bf16) (harg6 : arg6.IsWhole) (arg7 : Memref sig .tc .vmem S1024x2048 .bf16)
    (harg7 : arg7.IsWhole) (arg8 : Memref sig .tc .vmem S1024x2048 .bf16) (harg8 : arg8.IsWhole)
    (arg9 : Memref sig .tc .vmem S1024x3072 .bf16) (harg9 : arg9.IsWhole) (arg10 : Memref sig .tc .vmem S1x1024 .f32)
    (harg10 : arg10.IsWhole) (arg11 : Memref sig .tc .vmem S1024x1024 .bf16) (harg11 : arg11.IsWhole)
    (arg12 : Memref sig .tc .vmem S32x1024 .f32) (harg12 : arg12.IsWhole) (arg13 : Memref sig .tc .vmem S1x1024 .f32)
    (harg13 : arg13.IsWhole) (arg14 : Memref sig .tc .vmem S1x1024 .f32) (harg14 : arg14.IsWhole)
    (arg15 : Memref sig .tc .vmem S1x1024 .f32) (harg15 : arg15.IsWhole) (arg16 : Memref sig .tc .vmem S1024x1024 .bf16)
    (harg16 : arg16.IsWhole) (arg17 : Memref sig .tc .vmem S1x1024 .f32) (harg17 : arg17.IsWhole)
    (arg18 : Memref sig .tc .vmem S1x1024 .f32) (harg18 : arg18.IsWhole) (arg19 : Memref sig .tc .vmem S8x128x128 .bf16)
    (harg19 : arg19.IsWhole) (arg20 : Memref sig .tc .vmem S128x1024 .f32) (harg20 : arg20.IsWhole)
    (arg21 : Memref sig .tc .vmem S1024x1024 .bf16) (harg21 : arg21.IsWhole) (arg22 : Memref sig .tc .vmem S1024x1024 .bf16)
    (harg22 : arg22.IsWhole) (arg23 : Memref sig .tc .vmem S1x256x1024 .f32) (harg23 : arg23.IsWhole)
    (arg24 : Memref sig .tc .vmem S4x96x1024 .f32) (harg24 : arg24.IsWhole) (arg25 : Memref sig .tc .vmem S256x1024 .f32)
    (harg25 : arg25.IsWhole) (arg26 : Memref sig .tc .vmem S256x2048 .f32) (harg26 : arg26.IsWhole)
    (arg27 : Memref sig .tc .vmem S256x1024 .f32) (harg27 : arg27.IsWhole) (arg28 : Memref sig .tc .vmem S256x2048 .f32)
    (harg28 : arg28.IsWhole) (arg29 : Memref sig .tc .vmem S256x3072 .f32) (harg29 : arg29.IsWhole)
    (arg30 : Memref sig .tc .vmem S256x1024 .f32) (harg30 : arg30.IsWhole) (arg31 : Memref sig .tc .vmem S256x1024 .f32)
    (harg31 : arg31.IsWhole) (arg32 : Memref sig .tc .vmem S256x1024 .f32) (harg32 : arg32.IsWhole)
    (arg33 : Memref sig .tc .vmem S256x1024 .f32) (harg33 : arg33.IsWhole) (arg34 : Memref sig .tc .vmem S256x1024 .bf16)
    (harg34 : arg34.IsWhole) (arg35 : Memref sig .tc .vmem S256x1024 .bf16) (harg35 : arg35.IsWhole)
    (arg36 : Memref sig .tc .vmem S256x1024 .bf16) (harg36 : arg36.IsWhole) (arg37 : Memref sig .tc .vmem S256x1024 .bf16)
    (harg37 : arg37.IsWhole) (arg38 : Memref sig .tc .vmem S256x1024 .bf16) (harg38 : arg38.IsWhole) (x0 : Vec Ideal S1x256x1024 .f32)
    (x1 : Vec Ideal S1x256x1024 .f32) (x2 : Vec Ideal S1x8x1024 .f32) (x3 : Vec Ideal S1x1024 .f32) (x4 : Vec Ideal S1024x1024 .bf16)
    (x5 : Vec Ideal S1024x2048 .bf16) (x6 : Vec Ideal S1024x2048 .bf16) (x7 : Vec Ideal S1024x3072 .bf16)
    (x8 : Vec Ideal S1x1024 .f32) (x9 : Vec Ideal S1024x1024 .bf16) (x10 : Vec Ideal S32x1024 .f32) (x11 : Vec Ideal S1x1024 .f32)
    (x12 : Vec Ideal S1x1024 .f32) (x13 : Vec Ideal S1x1024 .f32) (x14 : Vec Ideal S1024x1024 .bf16) (x15 : Vec Ideal S1x1024 .f32)
    (x16 : Vec Ideal S1x1024 .f32) (x17 : Vec Ideal S8x128x128 .bf16) (x18 : Vec Ideal S128x1024 .f32)
    (x19 : Vec Ideal S1024x1024 .bf16) (x20 : Vec Ideal S1024x1024 .bf16)

/-- The recurrence's rows. -/
def ON (n : ℕ) (k : Fin 1024) : EReal := x1 (ix3 0 (rowN n) k)

/-- The first branch's input. -/
def AIN (n : ℕ) (k : Fin 1024) : EReal := ain (ON x1) (row x8) (R x0 x2 x3 x4) n k

/-- The second branch's input. -/
def BIN (n : ℕ) (k : Fin 1024) : EReal := bin (CV x0 x2 x3 x5) (taps x10) (row x11) (row x12) (row x13) n k

/-- The mixing weights by group. -/
def wsK (g : Fin 8) (r i : Fin 128) : EReal := x17 (ix3 g r i)

/-- The normalized second half of the gating unit. -/
def SV (n : ℕ) (k : Fin 1024) : EReal := sv (SG x0 x2 x3 x6) (row x15) (row x16) n k

/-- The mixed rows. -/
def SP (n : ℕ) (k : Fin 1024) : EReal := sp (SG x0 x2 x3 x6) (row x15) (row x16) (wsK x17) (mat x18) n k

/-- The third branch's input. -/
def CIN (n : ℕ) (k : Fin 1024) : EReal := cin (SG x0 x2 x3 x6) (row x15) (row x16) (wsK x17) (mat x18) n k

def YA (n : ℕ) : Fin 1024 → EReal := rowMul (AIN x0 x1 x2 x3 x4 x8 n) (mat x9)
def YB (n : ℕ) : Fin 1024 → EReal := rowMul (BIN x0 x2 x3 x5 x10 x11 x12 x13 n) (mat x14)
def YC (n : ℕ) : Fin 1024 → EReal := rowMul (CIN x0 x2 x3 x6 x15 x16 x17 x18 n) (mat x19)

/-- The merged rows. -/
def Y (n : ℕ) (k : Fin 1024) : EReal :=
  merge (GT x0 x2 x3 x7) (YA x0 x1 x2 x3 x4 x8 x9) (YB x0 x2 x3 x5 x10 x11 x12 x13 x14) (YC x0 x2 x3 x6 x15 x16 x17 x18 x19) n k

theorem ain_read : (kernelRun0_A.sl.v2040 c arg2 harg2 arg3 harg3 arg4 harg4 arg5 harg5 arg6 harg6 arg10 harg10 arg27 arg34 arg35 x0 x1 x2 x3 x4 x8) = arr (AIN x0 x1 x2 x3 x4 x8) := by
  unfold kernelRun0_A.sl.v2040 kernelRun0_A.sl.HS11_1
  refine whole_box _ _ _ _ ⟨fun x => ?_, trivial⟩ (View.cover_of_tiledL _ S256x1024.size (by sl_kernel_rfl))
  refine piece2 _ _ (by decide) (fun r j hj => (ain_pay _ _ _ r j).trans ?_) x
  rw [r_read c arg2 harg2 arg4 harg4 arg5 harg5 arg6 harg6 arg27 arg34 x0 x2 x3 x4, arr_at, View.readAt_eq_ld, harg3.read_unread, rd_row]
  pointwise
  unfold AIN ain ON
  simp only [Nat.zero_add, rowN_val]
  rfl

theorem hs7_4_pieces : View.PiecesOf (arr (YA x0 x1 x2 x3 x4 x8 x9)) (kernelRun0_A.sl.HS7_4 c arg2 harg2 arg3 harg3 arg4 harg4 arg5 harg5 arg6 harg6 arg10 harg10 arg11 harg11 arg27 arg34 arg35 x0 x1 x2 x3 x4 x8 x9) := by
  unfold kernelRun0_A.sl.HS7_4
  have hX := ain_read c arg2 harg2 arg3 harg3 arg4 harg4 arg5 harg5 arg6 harg6 arg10 harg10 arg27 arg34 arg35 x0 x1 x2 x3 x4 x8
  exact ⟨dot_piece _ _ _ _ _ hX _ (by decide), dot_piece _ _ _ _ _ hX _ (by decide), dot_piece _ _ _ _ _ hX _ (by decide), dot_piece _ _ _ _ _ hX _ (by decide), trivial⟩

theorem v1987_at (r : Fin 128) (j : Fin 1024) : (kernelRun0_A.sl.v1987 c arg2 harg2 arg4 harg4 arg5 harg5 arg8 harg8 arg28 arg34 x0 x2 x3 x6) (ix2 r j) = SG x0 x2 x3 x6 (0 + r.val) ⟨1024 + j.val, by omega⟩ := by
  unfold kernelRun0_A.sl.v1987
  exact cov_at _ _ _ (hs4_4_pieces c arg2 harg2 arg4 harg4 arg5 harg5 arg8 harg8 arg34 x0 x2 x3 x6) (by decide) (LoadRect.cover_of_covChk _ _ (.split 1 256 (.leaf 3) (.split 1 256 (.leaf 2) (.split 1 256 (.leaf 1) (.leaf 0)))) (by sl_kernel_rfl)) r j _

theorem v2047_at (r : Fin 128) (j : Fin 1024) : (kernelRun0_A.sl.v2047 c arg2 harg2 arg4 harg4 arg5 harg5 arg8 harg8 arg28 arg34 x0 x2 x3 x6) (ix2 r j) = SG x0 x2 x3 x6 (128 + r.val) ⟨1024 + j.val, by omega⟩ := by
  unfold kernelRun0_A.sl.v2047
  exact cov_at _ _ _ (hs4_4_pieces c arg2 harg2 arg4 harg4 arg5 harg5 arg8 harg8 arg34 x0 x2 x3 x6) (by decide) (LoadRect.cover_of_covChk _ _ (.split 1 256 (.leaf 3) (.split 1 256 (.leaf 2) (.split 1 256 (.leaf 1) (.leaf 0)))) (by sl_kernel_rfl)) r j _

theorem v0_at (r : Fin 128) (j : Fin 1024) : (kernelRun0_A.sl.v c arg2 harg2 arg4 harg4 arg5 harg5 arg8 harg8 arg28 arg34 x0 x2 x3 x6) (ix2 r j) = SG x0 x2 x3 x6 (0 + r.val) ⟨0 + j.val, by omega⟩ := by
  unfold kernelRun0_A.sl.v
  exact cov_at _ _ _ (hs4_8_pieces c arg2 harg2 arg4 harg4 arg5 harg5 arg8 harg8 arg34 x0 x2 x3 x6) (by decide) (LoadRect.cover_of_covChk _ _ (.split 1 256 (.leaf 3) (.split 1 256 (.leaf 2) (.split 1 256 (.leaf 1) (.leaf 0)))) (by sl_kernel_rfl)) r j _

theorem v4196_at (r : Fin 128) (j : Fin 1024) : (kernelRun0_A.sl.v4196 c arg2 harg2 arg4 harg4 arg5 harg5 arg8 harg8 arg28 arg34 x0 x2 x3 x6) (ix2 r j) = SG x0 x2 x3 x6 (128 + r.val) ⟨0 + j.val, by omega⟩ := by
  unfold kernelRun0_A.sl.v4196
  exact cov_at _ _ _ (hs4_8_pieces c arg2 harg2 arg4 harg4 arg5 harg5 arg8 harg8 arg34 x0 x2 x3 x6) (by decide) (LoadRect.cover_of_covChk _ _ (.split 1 256 (.leaf 3) (.split 1 256 (.leaf 2) (.split 1 256 (.leaf 1) (.leaf 0)))) (by sl_kernel_rfl)) r j _

theorem sv0_at (r : Fin 128) (j : Fin 1024) : (kernelRun0_A.sl.r_132 c arg2 harg2 arg4 harg4 arg5 harg5 arg8 harg8 arg17 harg17 arg18 harg18 arg28 arg34 x0 x2 x3 x6 x15 x16) (ix2 r j) = SV x0 x2 x3 x6 x15 x16 r.val j := by
  unfold kernelRun0_A.sl.r_132
  refine (sv_pay _ _ _ r j).trans ?_
  rw [rd_row, rd_row]
  simp only [v1987_at, Nat.zero_add]
  rfl

theorem sv1_at (r : Fin 128) (j : Fin 1024) : (kernelRun0_A.sl.r_135 c arg2 harg2 arg4 harg4 arg5 harg5 arg8 harg8 arg17 harg17 arg18 harg18 arg28 arg34 x0 x2 x3 x6 x15 x16) (ix2 r j) = SV x0 x2 x3 x6 x15 x16 (128 + r.val) j := by
  unfold kernelRun0_A.sl.r_135 kernelRun0_A.sl.r_134
  refine (sv_pay _ _ _ r j).trans ?_
  rw [rd_row, rd_row]
  simp only [v2047_at]
  rfl

/-- The weights of group `g` and the bias block of group `g`, as read. -/
theorem rd_ws (a : Memref sig .tc .vmem S8x128x128 .bf16) (h : a.IsWhole) (x : Vec Ideal S8x128x128 .bf16) (g : ℕ) (hg : g < 8)
    (inb : ∀ i, (![g, 0, 0] : Fin 3 → ℕ) i + S1x128x128.size i ≤ S8x128x128.size i) (r i : Fin 128) :
    (a.view.readAt (Elt Ideal) (Rect.unit (s := S8x128x128) ![g, 0, 0] S1x128x128.size inb).toLoadRect (h.unread x) : Vec Ideal S1x128x128 .bf16) (ix3 0 r i)
      = wsK x ⟨g, hg⟩ r i := by
  rw [View.readAt_eq_ld, h.read_unread]
  refine congrArg x ((emb3 inb 0 r i (by show g + 0 < 8; omega) (by omega) (by omega)).trans ?_)
  congr 1
  · exact Fin.ext (Nat.zero_add _)
  · exact Fin.ext (Nat.zero_add _)

theorem rd_sb (a : Memref sig .tc .vmem S128x1024 .f32) (h : a.IsWhole) (x : Vec Ideal S128x1024 .f32) (o : ℕ)
    (inb : ∀ i, (![0, o] : Fin 2 → ℕ) i + S128x128.size i ≤ S128x1024.size i) (r l : Fin 128) (hl : o + l.val < 1024) :
    (a.view.readAt (Elt Ideal) (Rect.unit (s := S128x1024) ![0, o] S128x128.size inb).toLoadRect (h.unread x) : Vec Ideal S128x128 .f32) (ix2 r l)
      = mat x r ⟨o + l.val, hl⟩ := by
  rw [View.readAt_eq_ld, h.read_unread]
  refine congrArg x ((emb2 inb r l (by omega) hl).trans ?_)
  congr 1
  exact Fin.ext (Nat.zero_add _)

/-- A block of the mixed rows of either chunk. -/
theorem sp_piece0 (g o : ℕ) (hg : g < 8) (ho : o = 128 * g) (sl : S128x1024.Slices ![0, o] S128x128) (sl' : S128x256.Slices ![0, 0] S128x128)
    (inb : ∀ i, (![g, 0, 0] : Fin 3 → ℕ) i + S1x128x128.size i ≤ S8x128x128.size i)
    (inb' : ∀ i, (![0, o] : Fin 2 → ℕ) i + S128x128.size i ≤ S128x1024.size i)
    (inb'' : ∀ i, (![0, o] : Fin 2 → ℕ) i + S128x128.size i ≤ S256x1024.size i) (x : S128x128.Idx) :
    mixs (mixd (kernelRun0_A.sl.r_132 c arg2 harg2 arg4 harg4 arg5 harg5 arg8 harg8 arg17 harg17 arg18 harg18 arg28 arg34 x0 x2 x3 x6 x15 x16) (kernelRun0_A.sl.r_135 c arg2 harg2 arg4 harg4 arg5 harg5 arg8 harg8 arg17 harg17 arg18 harg18 arg28 arg34 x0 x2 x3 x6 x15 x16) (arg19.view.readAt (Elt Ideal) (Rect.unit (s := S8x128x128) ![g, 0, 0] S1x128x128.size inb).toLoadRect (harg19.unread x17)) o sl)
        (arg20.view.readAt (Elt Ideal) (Rect.unit (s := S128x1024) ![0, o] S128x128.size inb').toLoadRect (harg20.unread x18)) 0 sl' x
      = (arr (SP x0 x2 x3 x6 x15 x16 x17 x18) : S256x1024.Idx → EReal) ((Rect.unit (s := S256x1024) ![0, o] S128x128.size inb'').emb x) := by
  refine piece2 _ _ inb'' (fun r l hj => ?_) x
  rw [mixs0, mixd0 _ _ _ _ _ _ _ hj, rd_sb _ _ _ _ _ _ _ hj]
  simp only [rd_ws _ _ _ g hg, sv0_at]
  unfold SP sp
  have e1 : (o + l.val) / 128 = g := by omega
  have e2 : r.val % 128 = r.val := by omega
  have e3 : r.val / 128 * 128 = 0 := by omega
  simp only [e1, e2, e3, Nat.zero_add]
  rfl

theorem sp_piece1 (g o : ℕ) (hg : g < 8) (ho : o = 128 * g) (sl : S128x1024.Slices ![0, o] S128x128) (sl' : S128x256.Slices ![0, 128] S128x128)
    (inb : ∀ i, (![g, 0, 0] : Fin 3 → ℕ) i + S1x128x128.size i ≤ S8x128x128.size i)
    (inb' : ∀ i, (![0, o] : Fin 2 → ℕ) i + S128x128.size i ≤ S128x1024.size i)
    (inb'' : ∀ i, (![128, o] : Fin 2 → ℕ) i + S128x128.size i ≤ S256x1024.size i) (x : S128x128.Idx) :
    mixs (mixd (kernelRun0_A.sl.r_132 c arg2 harg2 arg4 harg4 arg5 harg5 arg8 harg8 arg17 harg17 arg18 harg18 arg28 arg34 x0 x2 x3 x6 x15 x16) (kernelRun0_A.sl.r_135 c arg2 harg2 arg4 harg4 arg5 harg5 arg8 harg8 arg17 harg17 arg18 harg18 arg28 arg34 x0 x2 x3 x6 x15 x16) (arg19.view.readAt (Elt Ideal) (Rect.unit (s := S8x128x128) ![g, 0, 0] S1x128x128.size inb).toLoadRect (harg19.unread x17)) o sl)
        (arg20.view.readAt (Elt Ideal) (Rect.unit (s := S128x1024) ![0, o] S128x128.size inb').toLoadRect (harg20.unread x18)) 128 sl' x
      = (arr (SP x0 x2 x3 x6 x15 x16 x17 x18) : S256x1024.Idx → EReal) ((Rect.unit (s := S256x1024) ![128, o] S128x128.size inb'').emb x) := by
  refine piece2 _ _ inb'' (fun r l hj => ?_) x
  rw [mixs1, mixd1 _ _ _ _ _ _ _ hj, rd_sb _ _ _ _ _ _ _ hj]
  simp only [rd_ws _ _ _ g hg, sv1_at]
  unfold SP sp
  have e1 : (o + l.val) / 128 = g := by omega
  have e2 : (128 + r.val) % 128 = r.val := by omega
  have e3 : (128 + r.val) / 128 * 128 = 128 := by omega
  simp only [e1, e2, e3]
  rfl

theorem hs6_pieces : View.PiecesOf (arr (SP x0 x2 x3 x6 x15 x16 x17 x18)) (kernelRun0_A.sl.HS6_16 c arg2 harg2 arg4 harg4 arg5 harg5 arg8 harg8 arg17 harg17 arg18 harg18 arg19 harg19 arg20 harg20 arg28 arg34 x0 x2 x3 x6 x15 x16 x17 x18) := by
  unfold kernelRun0_A.sl.HS6_16
  have p0 := sp_piece0 c arg2 harg2 arg4 harg4 arg5 harg5 arg8 harg8 arg17 harg17 arg18 harg18 arg19 harg19 arg20 harg20 arg28 arg34 x0 x2 x3 x6 x15 x16 x17 x18
  have p1 := sp_piece1 c arg2 harg2 arg4 harg4 arg5 harg5 arg8 harg8 arg17 harg17 arg18 harg18 arg19 harg19 arg20 harg20 arg28 arg34 x0 x2 x3 x6 x15 x16 x17 x18
  exact ⟨p1 7 896 (by decide) rfl slices_S128x1024_o0_896_S128x128 slices_S128x256_o0_128_S128x128 _ _ (by decide),
    p0 7 896 (by decide) rfl slices_S128x1024_o0_896_S128x128 slices_S128x256_o0_0_S128x128 _ _ (by decide),
    p1 6 768 (by decide) rfl slices_S128x1024_o0_768_S128x128 slices_S128x256_o0_128_S128x128 _ _ (by decide),
    p0 6 768 (by decide) rfl slices_S128x1024_o0_768_S128x128 slices_S128x256_o0_0_S128x128 _ _ (by decide),
    p1 5 640 (by decide) rfl slices_S128x1024_o0_640_S128x128 slices_S128x256_o0_128_S128x128 _ _ (by decide),
    p0 5 640 (by decide) rfl slices_S128x1024_o0_640_S128x128 slices_S128x256_o0_0_S128x128 _ _ (by decide),
    p1 4 512 (by decide) rfl slices_S128x1024_o0_512_S128x128 slices_S128x256_o0_128_S128x128 _ _ (by decide),
    p0 4 512 (by decide) rfl slices_S128x1024_o0_512_S128x128 slices_S128x256_o0_0_S128x128 _ _ (by decide),
    p1 3 384 (by decide) rfl slices_S128x1024_o0_384_S128x128 slices_S128x256_o0_128_S128x128 _ _ (by decide),
    p0 3 384 (by decide) rfl slices_S128x1024_o0_384_S128x128 slices_S128x256_o0_0_S128x128 _ _ (by decide),
    p1 2 256 (by decide) rfl slices_S128x1024_o0_256_S128x128 slices_S128x256_o0_128_S128x128 _ _ (by decide),
    p0 2 256 (by decide) rfl slices_S128x1024_o0_256_S128x128 slices_S128x256_o0_0_S128x128 _ _ (by decide),
    p1 1 128 (by decide) rfl slices_S128x1024_o0_128_S128x128 slices_S128x256_o0_128_S128x128 _ _ (by decide),
    p0 1 128 (by decide) rfl slices_S128x1024_o0_128_S128x128 slices_S128x256_o0_0_S128x128 _ _ (by decide),
    p1 0 0 (by decide) rfl slices_S128x1024_o0_0_S128x128 slices_S128x256_o0_128_S128x128 _ _ (by decide),
    p0 0 0 (by decide) rfl slices_S128x1024_o0_0_S128x128 slices_S128x256_o0_0_S128x128 _ _ (by decide), trivial⟩

theorem v4176_at (r : Fin 128) (j : Fin 1024) : (kernelRun0_A.sl.v4176 c arg2 harg2 arg4 harg4 arg5 harg5 arg8 harg8 arg17 harg17 arg18 harg18 arg19 harg19 arg20 harg20 arg28 arg30 arg34 x0 x2 x3 x6 x15 x16 x17 x18) (ix2 r j) = SP x0 x2 x3 x6 x15 x16 x17 x18 (0 + r.val) ⟨0 + j.val, by omega⟩ := by
  unfold kernelRun0_A.sl.v4176
  exact cov_at _ _ _ (hs6_pieces c arg2 harg2 arg4 harg4 arg5 harg5 arg8 harg8 arg17 harg17 arg18 harg18 arg19 harg19 arg20 harg20 arg28 arg34 x0 x2 x3 x6 x15 x16 x17 x18) (by decide) (fun j => View.cover_of_tiledL _ (![128, 128] : Fin 2 → ℕ) (by sl_kernel_rfl) _) r j _

theorem v4210_at (r : Fin 128) (j : Fin 1024) : (kernelRun0_A.sl.v4210 c arg2 harg2 arg4 harg4 arg5 harg5 arg8 harg8 arg17 harg17 arg18 harg18 arg19 harg19 arg20 harg20 arg28 arg30 arg34 x0 x2 x3 x6 x15 x16 x17 x18) (ix2 r j) = SP x0 x2 x3 x6 x15 x16 x17 x18 (128 + r.val) ⟨0 + j.val, by omega⟩ := by
  unfold kernelRun0_A.sl.v4210
  exact cov_at _ _ _ (hs6_pieces c arg2 harg2 arg4 harg4 arg5 harg5 arg8 harg8 arg17 harg17 arg18 harg18 arg19 harg19 arg20 harg20 arg28 arg34 x0 x2 x3 x6 x15 x16 x17 x18) (by decide) (fun j => View.cover_of_tiledL _ (![128, 128] : Fin 2 → ℕ) (by sl_kernel_rfl) _) r j _

theorem v8048_at (r : Fin 128) (j : Fin 1024) : (kernelRun0_A.sl.v8048 c arg2 harg2 arg4 harg4 arg5 harg5 arg7 harg7 arg12 harg12 arg24 arg25 arg26 arg34 x0 x2 x3 x5 x10) (ix2 r j) = conv (CV x0 x2 x3 x5) (taps x10) (0 + r.val) ⟨0 + j.val, by omega⟩ := by
  unfold kernelRun0_A.sl.v8048
  exact cov_at _ _ _ (hs1_pieces c arg2 harg2 arg4 harg4 arg5 harg5 arg7 harg7 arg12 harg12 arg24 arg26 arg34 x0 x2 x3 x5 x10) (by decide) (fun j => View.cover_of_tiledL _ (![64, 128] : Fin 2 → ℕ) (by sl_kernel_rfl) _) r j _

theorem v8103_at (r : Fin 128) (j : Fin 1024) : (kernelRun0_A.sl.v8103 c arg2 harg2 arg4 harg4 arg5 harg5 arg7 harg7 arg12 harg12 arg24 arg25 arg26 arg34 x0 x2 x3 x5 x10) (ix2 r j) = conv (CV x0 x2 x3 x5) (taps x10) (128 + r.val) ⟨0 + j.val, by omega⟩ := by
  unfold kernelRun0_A.sl.v8103
  exact cov_at _ _ _ (hs1_pieces c arg2 harg2 arg4 harg4 arg5 harg5 arg7 harg7 arg12 harg12 arg24 arg26 arg34 x0 x2 x3 x5 x10) (by decide) (fun j => View.cover_of_tiledL _ (![64, 128] : Fin 2 → ℕ) (by sl_kernel_rfl) _) r j _

theorem cin_read : (kernelRun0_A.sl.v8089 c arg2 harg2 arg4 harg4 arg5 harg5 arg8 harg8 arg17 harg17 arg18 harg18 arg19 harg19 arg20 harg20 arg28 arg30 arg34 arg37 x0 x2 x3 x6 x15 x16 x17 x18) = arr (CIN x0 x2 x3 x6 x15 x16 x17 x18) := by
  unfold kernelRun0_A.sl.v8089 kernelRun0_A.sl.HS13_2
  refine whole_box _ _ _ _ ⟨fun x => ?_, fun x => ?_, trivial⟩ (View.cover_of_tiledL _ S128x1024.size (by sl_kernel_rfl))
  · refine piece2 _ _ (by decide) (fun r j hj => (cin_pay _ _ r j).trans ?_) x
    rw [v4196_at, v4210_at]
    unfold CIN cin SP
    simp only [Nat.zero_add]
  · refine piece2 _ _ (by decide) (fun r j hj => (cin_pay _ _ r j).trans ?_) x
    rw [v0_at, v4176_at]
    unfold CIN cin SP
    simp only [Nat.zero_add]

theorem bin_read : (kernelRun0_A.sl.v8158 c arg2 harg2 arg4 harg4 arg5 harg5 arg7 harg7 arg12 harg12 arg13 harg13 arg14 harg14 arg15 harg15 arg24 arg25 arg26 arg34 arg36 x0 x2 x3 x5 x10 x11 x12 x13) = arr (BIN x0 x2 x3 x5 x10 x11 x12 x13) := by
  unfold kernelRun0_A.sl.v8158 kernelRun0_A.sl.HS12_2 kernelRun0_A.sl.r_530 kernelRun0_A.sl.r_531
  refine whole_box _ _ _ _ ⟨fun x => ?_, fun x => ?_, trivial⟩ (View.cover_of_tiledL _ S128x1024.size (by sl_kernel_rfl))
  · refine piece2 _ _ (by decide) (fun r j hj => (bin_pay _ _ _ _ r j).trans ?_) x
    rw [rd_row, rd_row, rd_row]
    simp only [v8103_at, Nat.zero_add]
    rfl
  · refine piece2 _ _ (by decide) (fun r j hj => (bin_pay_split _ _ _ _ r j).trans ?_) x
    rw [rd_row, rd_row, rd_row]
    simp only [v8048_at, Nat.zero_add]
    rfl

theorem hs8_2_pieces : View.PiecesOf (arr (YB x0 x2 x3 x5 x10 x11 x12 x13 x14)) (kernelRun0_A.sl.HS8_2 c arg2 harg2 arg4 harg4 arg5 harg5 arg7 harg7 arg12 harg12 arg13 harg13 arg14 harg14 arg15 harg15 arg16 harg16 arg24 arg25 arg26 arg34 arg36 x0 x2 x3 x5 x10 x11 x12 x13 x14) := by
  unfold kernelRun0_A.sl.HS8_2
  have hX := bin_read c arg2 harg2 arg4 harg4 arg5 harg5 arg7 harg7 arg12 harg12 arg13 harg13 arg14 harg14 arg15 harg15 arg24 arg25 arg26 arg34 arg36 x0 x2 x3 x5 x10 x11 x12 x13
  exact ⟨dot_piece _ _ _ _ _ hX _ (by decide), dot_piece _ _ _ _ _ hX _ (by decide), trivial⟩

theorem hs8_3_pieces : View.PiecesOf (arr (YB x0 x2 x3 x5 x10 x11 x12 x13 x14)) (kernelRun0_A.sl.HS8_3 c arg2 harg2 arg4 harg4 arg5 harg5 arg7 harg7 arg12 harg12 arg13 harg13 arg14 harg14 arg15 harg15 arg16 harg16 arg24 arg25 arg26 arg34 arg36 x0 x2 x3 x5 x10 x11 x12 x13 x14) := by
  unfold kernelRun0_A.sl.HS8_3
  have hX := bin_read c arg2 harg2 arg4 harg4 arg5 harg5 arg7 harg7 arg12 harg12 arg13 harg13 arg14 harg14 arg15 harg15 arg24 arg25 arg26 arg34 arg36 x0 x2 x3 x5 x10 x11 x12 x13
  exact ⟨dot_piece _ _ _ _ _ hX _ (by decide), hs8_2_pieces c arg2 harg2 arg4 harg4 arg5 harg5 arg7 harg7 arg12 harg12 arg13 harg13 arg14 harg14 arg15 harg15 arg16 harg16 arg24 arg25 arg26 arg34 arg36 x0 x2 x3 x5 x10 x11 x12 x13 x14⟩

theorem hs8_4_pieces : View.PiecesOf (arr (YB x0 x2 x3 x5 x10 x11 x12 x13 x14)) (kernelRun0_A.sl.HS8_4 c arg2 harg2 arg4 harg4 arg5 harg5 arg7 harg7 arg12 harg12 arg13 harg13 arg14 harg14 arg15 harg15 arg16 harg16 arg24 arg25 arg26 arg34 arg36 x0 x2 x3 x5 x10 x11 x12 x13 x14) := by
  unfold kernelRun0_A.sl.HS8_4
  have hX := bin_read c arg2 harg2 arg4 harg4 arg5 harg5 arg7 harg7 arg12 harg12 arg13 harg13 arg14 harg14 arg15 harg15 arg24 arg25 arg26 arg34 arg36 x0 x2 x3 x5 x10 x11 x12 x13
  exact ⟨dot_piece _ _ _ _ _ hX _ (by decide), hs8_3_pieces c arg2 harg2 arg4 harg4 arg5 harg5 arg7 harg7 arg12 harg12 arg13 harg13 arg14 harg14 arg15 harg15 arg16 harg16 arg24 arg25 arg26 arg34 arg36 x0 x2 x3 x5 x10 x11 x12 x13 x14⟩

theorem hs9_4_pieces : View.PiecesOf (arr (YC x0 x2 x3 x6 x15 x16 x17 x18 x19)) (kernelRun0_A.sl.HS9_4 c arg2 harg2 arg4 harg4 arg5 harg5 arg8 harg8 arg17 harg17 arg18 harg18 arg19 harg19 arg20 harg20 arg21 harg21 arg28 arg30 arg34 arg37 x0 x2 x3 x6 x15 x16 x17 x18 x19) := by
  unfold kernelRun0_A.sl.HS9_4
  have hX := cin_read c arg2 harg2 arg4 harg4 arg5 harg5 arg8 harg8 arg17 harg17 arg18 harg18 arg19 harg19 arg20 harg20 arg28 arg30 arg34 arg37 x0 x2 x3 x6 x15 x16 x17 x18
  exact ⟨dot_piece _ _ _ _ _ hX _ (by decide), dot_piece _ _ _ _ _ hX _ (by decide), dot_piece _ _ _ _ _ hX _ (by decide), dot_piece _ _ _ _ _ hX _ (by decide), trivial⟩

theorem v8172_at (r : Fin 256) (j : Fin 256) : (kernelRun0_A.sl.v8172 c arg2 harg2 arg4 harg4 arg5 harg5 arg9 harg9 arg29 arg34 x0 x2 x3 x7) (ix2 r j) = GT x0 x2 x3 x7 (0 + r.val) ⟨0 + j.val, by omega⟩ := by
  unfold kernelRun0_A.sl.v8172
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8182_at (r : Fin 256) (j : Fin 256) : (kernelRun0_A.sl.v8182 c arg2 harg2 arg4 harg4 arg5 harg5 arg9 harg9 arg29 arg34 x0 x2 x3 x7) (ix2 r j) = GT x0 x2 x3 x7 (0 + r.val) ⟨1024 + j.val, by omega⟩ := by
  unfold kernelRun0_A.sl.v8182
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8193_at (r : Fin 256) (j : Fin 256) : (kernelRun0_A.sl.v8193 c arg2 harg2 arg4 harg4 arg5 harg5 arg9 harg9 arg29 arg34 x0 x2 x3 x7) (ix2 r j) = GT x0 x2 x3 x7 (0 + r.val) ⟨2048 + j.val, by omega⟩ := by
  unfold kernelRun0_A.sl.v8193
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8180_at (r : Fin 256) (j : Fin 256) : (kernelRun0_A.sl.v8180 c arg2 harg2 arg3 harg3 arg4 harg4 arg5 harg5 arg6 harg6 arg10 harg10 arg11 harg11 arg27 arg31 arg34 arg35 x0 x1 x2 x3 x4 x8 x9) (ix2 r j) = YA x0 x1 x2 x3 x4 x8 x9 (0 + r.val) ⟨0 + j.val, by omega⟩ := by
  unfold kernelRun0_A.sl.v8180
  exact cov_at _ _ _ (hs7_4_pieces c arg2 harg2 arg3 harg3 arg4 harg4 arg5 harg5 arg6 harg6 arg10 harg10 arg11 harg11 arg27 arg34 arg35 x0 x1 x2 x3 x4 x8 x9) (by decide) (fun j => View.cover_of_tiledL _ (![256, 256] : Fin 2 → ℕ) (by sl_kernel_rfl) _) r j _

theorem v8190_at (r : Fin 256) (j : Fin 256) : (kernelRun0_A.sl.v8190 c arg2 harg2 arg4 harg4 arg5 harg5 arg7 harg7 arg12 harg12 arg13 harg13 arg14 harg14 arg15 harg15 arg16 harg16 arg24 arg25 arg26 arg32 arg34 arg36 x0 x2 x3 x5 x10 x11 x12 x13 x14) (ix2 r j) = YB x0 x2 x3 x5 x10 x11 x12 x13 x14 (0 + r.val) ⟨0 + j.val, by omega⟩ := by
  unfold kernelRun0_A.sl.v8190
  exact cov_at _ _ _ (hs8_2_pieces c arg2 harg2 arg4 harg4 arg5 harg5 arg7 harg7 arg12 harg12 arg13 harg13 arg14 harg14 arg15 harg15 arg16 harg16 arg24 arg25 arg26 arg34 arg36 x0 x2 x3 x5 x10 x11 x12 x13 x14) (by decide) (LoadRect.cover_of_covChk _ _ (.leaf 1) (by sl_kernel_rfl)) r j _

theorem v8201_at (r : Fin 256) (j : Fin 256) : (kernelRun0_A.sl.v8201 c arg2 harg2 arg4 harg4 arg5 harg5 arg8 harg8 arg17 harg17 arg18 harg18 arg19 harg19 arg20 harg20 arg21 harg21 arg28 arg30 arg33 arg34 arg37 x0 x2 x3 x6 x15 x16 x17 x18 x19) (ix2 r j) = YC x0 x2 x3 x6 x15 x16 x17 x18 x19 (0 + r.val) ⟨0 + j.val, by omega⟩ := by
  unfold kernelRun0_A.sl.v8201
  exact cov_at _ _ _ (hs9_4_pieces c arg2 harg2 arg4 harg4 arg5 harg5 arg8 harg8 arg17 harg17 arg18 harg18 arg19 harg19 arg20 harg20 arg21 harg21 arg28 arg30 arg34 arg37 x0 x2 x3 x6 x15 x16 x17 x18 x19) (by decide) (fun j => View.cover_of_tiledL _ (![256, 256] : Fin 2 → ℕ) (by sl_kernel_rfl) _) r j _

theorem v8215_at (r : Fin 256) (j : Fin 256) : (kernelRun0_A.sl.v8215 c arg2 harg2 arg4 harg4 arg5 harg5 arg9 harg9 arg29 arg34 x0 x2 x3 x7) (ix2 r j) = GT x0 x2 x3 x7 (0 + r.val) ⟨256 + j.val, by omega⟩ := by
  unfold kernelRun0_A.sl.v8215
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8225_at (r : Fin 256) (j : Fin 256) : (kernelRun0_A.sl.v8225 c arg2 harg2 arg4 harg4 arg5 harg5 arg9 harg9 arg29 arg34 x0 x2 x3 x7) (ix2 r j) = GT x0 x2 x3 x7 (0 + r.val) ⟨1280 + j.val, by omega⟩ := by
  unfold kernelRun0_A.sl.v8225
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8236_at (r : Fin 256) (j : Fin 256) : (kernelRun0_A.sl.v8236 c arg2 harg2 arg4 harg4 arg5 harg5 arg9 harg9 arg29 arg34 x0 x2 x3 x7) (ix2 r j) = GT x0 x2 x3 x7 (0 + r.val) ⟨2304 + j.val, by omega⟩ := by
  unfold kernelRun0_A.sl.v8236
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8223_at (r : Fin 256) (j : Fin 256) : (kernelRun0_A.sl.v8223 c arg2 harg2 arg3 harg3 arg4 harg4 arg5 harg5 arg6 harg6 arg10 harg10 arg11 harg11 arg27 arg31 arg34 arg35 x0 x1 x2 x3 x4 x8 x9) (ix2 r j) = YA x0 x1 x2 x3 x4 x8 x9 (0 + r.val) ⟨256 + j.val, by omega⟩ := by
  unfold kernelRun0_A.sl.v8223
  exact cov_at _ _ _ (hs7_4_pieces c arg2 harg2 arg3 harg3 arg4 harg4 arg5 harg5 arg6 harg6 arg10 harg10 arg11 harg11 arg27 arg34 arg35 x0 x1 x2 x3 x4 x8 x9) (by decide) (fun j => View.cover_of_tiledL _ (![256, 256] : Fin 2 → ℕ) (by sl_kernel_rfl) _) r j _

theorem v8233_at (r : Fin 256) (j : Fin 256) : (kernelRun0_A.sl.v8233 c arg2 harg2 arg4 harg4 arg5 harg5 arg7 harg7 arg12 harg12 arg13 harg13 arg14 harg14 arg15 harg15 arg16 harg16 arg24 arg25 arg26 arg32 arg34 arg36 x0 x2 x3 x5 x10 x11 x12 x13 x14) (ix2 r j) = YB x0 x2 x3 x5 x10 x11 x12 x13 x14 (0 + r.val) ⟨256 + j.val, by omega⟩ := by
  unfold kernelRun0_A.sl.v8233
  exact cov_at _ _ _ (hs8_3_pieces c arg2 harg2 arg4 harg4 arg5 harg5 arg7 harg7 arg12 harg12 arg13 harg13 arg14 harg14 arg15 harg15 arg16 harg16 arg24 arg25 arg26 arg34 arg36 x0 x2 x3 x5 x10 x11 x12 x13 x14) (by decide) (LoadRect.cover_of_covChk _ _ (.leaf 1) (by sl_kernel_rfl)) r j _

theorem v8244_at (r : Fin 256) (j : Fin 256) : (kernelRun0_A.sl.v8244 c arg2 harg2 arg4 harg4 arg5 harg5 arg8 harg8 arg17 harg17 arg18 harg18 arg19 harg19 arg20 harg20 arg21 harg21 arg28 arg30 arg33 arg34 arg37 x0 x2 x3 x6 x15 x16 x17 x18 x19) (ix2 r j) = YC x0 x2 x3 x6 x15 x16 x17 x18 x19 (0 + r.val) ⟨256 + j.val, by omega⟩ := by
  unfold kernelRun0_A.sl.v8244
  exact cov_at _ _ _ (hs9_4_pieces c arg2 harg2 arg4 harg4 arg5 harg5 arg8 harg8 arg17 harg17 arg18 harg18 arg19 harg19 arg20 harg20 arg21 harg21 arg28 arg30 arg34 arg37 x0 x2 x3 x6 x15 x16 x17 x18 x19) (by decide) (fun j => View.cover_of_tiledL _ (![256, 256] : Fin 2 → ℕ) (by sl_kernel_rfl) _) r j _

theorem v8258_at (r : Fin 256) (j : Fin 256) : (kernelRun0_A.sl.v8258 c arg2 harg2 arg4 harg4 arg5 harg5 arg9 harg9 arg29 arg34 x0 x2 x3 x7) (ix2 r j) = GT x0 x2 x3 x7 (0 + r.val) ⟨512 + j.val, by omega⟩ := by
  unfold kernelRun0_A.sl.v8258
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8268_at (r : Fin 256) (j : Fin 256) : (kernelRun0_A.sl.v8268 c arg2 harg2 arg4 harg4 arg5 harg5 arg9 harg9 arg29 arg34 x0 x2 x3 x7) (ix2 r j) = GT x0 x2 x3 x7 (0 + r.val) ⟨1536 + j.val, by omega⟩ := by
  unfold kernelRun0_A.sl.v8268
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8279_at (r : Fin 256) (j : Fin 256) : (kernelRun0_A.sl.v8279 c arg2 harg2 arg4 harg4 arg5 harg5 arg9 harg9 arg29 arg34 x0 x2 x3 x7) (ix2 r j) = GT x0 x2 x3 x7 (0 + r.val) ⟨2560 + j.val, by omega⟩ := by
  unfold kernelRun0_A.sl.v8279
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8266_at (r : Fin 256) (j : Fin 256) : (kernelRun0_A.sl.v8266 c arg2 harg2 arg3 harg3 arg4 harg4 arg5 harg5 arg6 harg6 arg10 harg10 arg11 harg11 arg27 arg31 arg34 arg35 x0 x1 x2 x3 x4 x8 x9) (ix2 r j) = YA x0 x1 x2 x3 x4 x8 x9 (0 + r.val) ⟨512 + j.val, by omega⟩ := by
  unfold kernelRun0_A.sl.v8266
  exact cov_at _ _ _ (hs7_4_pieces c arg2 harg2 arg3 harg3 arg4 harg4 arg5 harg5 arg6 harg6 arg10 harg10 arg11 harg11 arg27 arg34 arg35 x0 x1 x2 x3 x4 x8 x9) (by decide) (fun j => View.cover_of_tiledL _ (![256, 256] : Fin 2 → ℕ) (by sl_kernel_rfl) _) r j _

theorem v8276_at (r : Fin 256) (j : Fin 256) : (kernelRun0_A.sl.v8276 c arg2 harg2 arg4 harg4 arg5 harg5 arg7 harg7 arg12 harg12 arg13 harg13 arg14 harg14 arg15 harg15 arg16 harg16 arg24 arg25 arg26 arg32 arg34 arg36 x0 x2 x3 x5 x10 x11 x12 x13 x14) (ix2 r j) = YB x0 x2 x3 x5 x10 x11 x12 x13 x14 (0 + r.val) ⟨512 + j.val, by omega⟩ := by
  unfold kernelRun0_A.sl.v8276
  exact cov_at _ _ _ (hs8_4_pieces c arg2 harg2 arg4 harg4 arg5 harg5 arg7 harg7 arg12 harg12 arg13 harg13 arg14 harg14 arg15 harg15 arg16 harg16 arg24 arg25 arg26 arg34 arg36 x0 x2 x3 x5 x10 x11 x12 x13 x14) (by decide) (LoadRect.cover_of_covChk _ _ (.leaf 1) (by sl_kernel_rfl)) r j _

theorem v8287_at (r : Fin 256) (j : Fin 256) : (kernelRun0_A.sl.v8287 c arg2 harg2 arg4 harg4 arg5 harg5 arg8 harg8 arg17 harg17 arg18 harg18 arg19 harg19 arg20 harg20 arg21 harg21 arg28 arg30 arg33 arg34 arg37 x0 x2 x3 x6 x15 x16 x17 x18 x19) (ix2 r j) = YC x0 x2 x3 x6 x15 x16 x17 x18 x19 (0 + r.val) ⟨512 + j.val, by omega⟩ := by
  unfold kernelRun0_A.sl.v8287
  exact cov_at _ _ _ (hs9_4_pieces c arg2 harg2 arg4 harg4 arg5 harg5 arg8 harg8 arg17 harg17 arg18 harg18 arg19 harg19 arg20 harg20 arg21 harg21 arg28 arg30 arg34 arg37 x0 x2 x3 x6 x15 x16 x17 x18 x19) (by decide) (fun j => View.cover_of_tiledL _ (![256, 256] : Fin 2 → ℕ) (by sl_kernel_rfl) _) r j _

theorem v8294_at (r : Fin 256) (j : Fin 256) : (kernelRun0_A.sl.v8294 c arg2 harg2 arg4 harg4 arg5 harg5 arg9 harg9 arg29 arg34 x0 x2 x3 x7) (ix2 r j) = GT x0 x2 x3 x7 (0 + r.val) ⟨768 + j.val, by omega⟩ := by
  unfold kernelRun0_A.sl.v8294
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8304_at (r : Fin 256) (j : Fin 256) : (kernelRun0_A.sl.v8304 c arg2 harg2 arg4 harg4 arg5 harg5 arg9 harg9 arg29 arg34 x0 x2 x3 x7) (ix2 r j) = GT x0 x2 x3 x7 (0 + r.val) ⟨1792 + j.val, by omega⟩ := by
  unfold kernelRun0_A.sl.v8304
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8315_at (r : Fin 256) (j : Fin 256) : (kernelRun0_A.sl.v8315 c arg2 harg2 arg4 harg4 arg5 harg5 arg9 harg9 arg29 arg34 x0 x2 x3 x7) (ix2 r j) = GT x0 x2 x3 x7 (0 + r.val) ⟨2816 + j.val, by omega⟩ := by
  unfold kernelRun0_A.sl.v8315
  exact cov_at _ _ _ (hs5_12_pieces c arg2 harg2 arg4 harg4 arg5 harg5 arg9 harg9 arg34 x0 x2 x3 x7) (by decide) (fun j => View.cover_of_tiledL _ (![256, 256] : Fin 2 → ℕ) (by sl_kernel_rfl) _) r j _

theorem v8302_at (r : Fin 256) (j : Fin 256) : (kernelRun0_A.sl.v8302 c arg2 harg2 arg3 harg3 arg4 harg4 arg5 harg5 arg6 harg6 arg10 harg10 arg11 harg11 arg27 arg31 arg34 arg35 x0 x1 x2 x3 x4 x8 x9) (ix2 r j) = YA x0 x1 x2 x3 x4 x8 x9 (0 + r.val) ⟨768 + j.val, by omega⟩ := by
  unfold kernelRun0_A.sl.v8302
  exact cov_at _ _ _ (hs7_4_pieces c arg2 harg2 arg3 harg3 arg4 harg4 arg5 harg5 arg6 harg6 arg10 harg10 arg11 harg11 arg27 arg34 arg35 x0 x1 x2 x3 x4 x8 x9) (by decide) (fun j => View.cover_of_tiledL _ (![256, 256] : Fin 2 → ℕ) (by sl_kernel_rfl) _) r j _

theorem v8312_at (r : Fin 256) (j : Fin 256) : (kernelRun0_A.sl.v8312 c arg2 harg2 arg4 harg4 arg5 harg5 arg7 harg7 arg12 harg12 arg13 harg13 arg14 harg14 arg15 harg15 arg16 harg16 arg24 arg25 arg26 arg32 arg34 arg36 x0 x2 x3 x5 x10 x11 x12 x13 x14) (ix2 r j) = YB x0 x2 x3 x5 x10 x11 x12 x13 x14 (0 + r.val) ⟨768 + j.val, by omega⟩ := by
  unfold kernelRun0_A.sl.v8312
  exact cov_at _ _ _ (hs8_4_pieces c arg2 harg2 arg4 harg4 arg5 harg5 arg7 harg7 arg12 harg12 arg13 harg13 arg14 harg14 arg15 harg15 arg16 harg16 arg24 arg25 arg26 arg34 arg36 x0 x2 x3 x5 x10 x11 x12 x13 x14) (by decide) (LoadRect.cover_of_covChk _ _ (.leaf 0) (by sl_kernel_rfl)) r j _

theorem v8323_at (r : Fin 256) (j : Fin 256) : (kernelRun0_A.sl.v8323 c arg2 harg2 arg4 harg4 arg5 harg5 arg8 harg8 arg17 harg17 arg18 harg18 arg19 harg19 arg20 harg20 arg21 harg21 arg28 arg30 arg33 arg34 arg37 x0 x2 x3 x6 x15 x16 x17 x18 x19) (ix2 r j) = YC x0 x2 x3 x6 x15 x16 x17 x18 x19 (0 + r.val) ⟨768 + j.val, by omega⟩ := by
  unfold kernelRun0_A.sl.v8323
  exact cov_at _ _ _ (hs9_4_pieces c arg2 harg2 arg4 harg4 arg5 harg5 arg8 harg8 arg17 harg17 arg18 harg18 arg19 harg19 arg20 harg20 arg21 harg21 arg28 arg30 arg34 arg37 x0 x2 x3 x6 x15 x16 x17 x18 x19) (by decide) (fun j => View.cover_of_tiledL _ (![256, 256] : Fin 2 → ℕ) (by sl_kernel_rfl) _) r j _

theorem merge_eq {lo l1 l2 : ℕ} (G : ℕ → Fin 3072 → EReal) (ya yb yc : ℕ → Fin 1024 → EReal) (n : ℕ) (hlo : lo + 256 ≤ 1024)
    (h : l1 = 1024 + lo ∧ l2 = 2048 + lo) (j : Fin 256) :
    sig (G n ⟨lo + j.val, by omega⟩) * ya n ⟨lo + j.val, by omega⟩ + sig (G n ⟨l1 + j.val, by omega⟩) * yb n ⟨lo + j.val, by omega⟩
        + sig (G n ⟨l2 + j.val, by omega⟩) * yc n ⟨lo + j.val, by omega⟩
      = merge G ya yb yc n ⟨lo + j.val, by omega⟩ := by
  obtain ⟨rfl, rfl⟩ := h
  unfold merge
  simp only [Nat.add_assoc]

theorem y_read : (kernelRun0_A.sl.v8334 c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg24 arg25 arg26 arg27 arg28 arg29 arg30 arg31 arg32 arg33 arg34 arg35 arg36 arg37 arg38 x0 x1 x2 x3 x4 x5 x6 x7 x8 x9 x10 x11 x12 x13 x14 x15 x16 x17 x18 x19) = arr (Y x0 x1 x2 x3 x4 x5 x6 x7 x8 x9 x10 x11 x12 x13 x14 x15 x16 x17 x18 x19) := by
  unfold kernelRun0_A.sl.v8334 kernelRun0_A.sl.HS14_4
  refine whole_box _ _ _ _ ⟨fun x => ?_, fun x => ?_, fun x => ?_, fun x => ?_, trivial⟩ (View.cover_of_tiledL _ S256x256.size (by sl_kernel_rfl))
  · refine piece2 _ _ (by decide) (fun r j hj => (merge_pay _ _ _ _ _ _ r j).trans ?_) x
    rw [v8294_at, v8304_at, v8315_at, v8302_at, v8312_at, v8323_at]
    exact merge_eq _ _ _ _ _ (by decide) (by decide) j
  · refine piece2 _ _ (by decide) (fun r j hj => (merge_pay _ _ _ _ _ _ r j).trans ?_) x
    rw [v8258_at, v8268_at, v8279_at, v8266_at, v8276_at, v8287_at]
    exact merge_eq _ _ _ _ _ (by decide) (by decide) j
  · refine piece2 _ _ (by decide) (fun r j hj => (merge_pay _ _ _ _ _ _ r j).trans ?_) x
    rw [v8215_at, v8225_at, v8236_at, v8223_at, v8233_at, v8244_at]
    exact merge_eq _ _ _ _ _ (by decide) (by decide) j
  · refine piece2 _ _ (by decide) (fun r j hj => (merge_pay _ _ _ _ _ _ r j).trans ?_) x
    rw [v8172_at, v8182_at, v8193_at, v8180_at, v8190_at, v8201_at]
    exact merge_eq _ _ _ _ _ (by decide) (by decide) j

/-- The output's rows, as the block's array. -/
def OUT : S1x256x1024.Idx → EReal := fun y =>
  out (fun n k => x0 (ix3 0 (rowN n) k)) (Y x0 x1 x2 x3 x4 x5 x6 x7 x8 x9 x10 x11 x12 x13 x14 x15 x16 x17 x18 x19) (mrow x2 2) (mat x20) (y 1).val (y 2)

/-- A block of the output. -/
theorem out_piece (lo : ℕ) (hlo : lo + 256 ≤ 1024) (Yv : FVec Ideal S256x1024 .bf16) (A : ℕ → Fin 1024 → EReal)
    (hY : Yv = (arr A : S256x1024.Idx → EReal))
    (inb0 : ∀ i, (![0, 0, lo] : Fin 3 → ℕ) i + S1x256x256.size i ≤ S1x256x1024.size i)
    (inb2 : ∀ i, (![0, 2, lo] : Fin 3 → ℕ) i + S1x1x256.size i ≤ S1x8x1024.size i)
    (inbw : ∀ i, (![0, lo] : Fin 2 → ℕ) i + S1024x256.size i ≤ S1024x1024.size i)
    (inb : ∀ i, (![0, 0, lo] : Fin 3 → ℕ) i + S1x256x256.size i ≤ S1x256x1024.size i) (x : S1x256x256.Idx) :
    k0_pay690 (arg2.view.readAt (Elt Ideal) (Rect.unit (s := S1x256x1024) ![0, 0, lo] S1x256x256.size inb0).toLoadRect (harg2.unread x0))
        (arg4.view.readAt (Elt Ideal) (Rect.unit (s := S1x8x1024) ![0, 2, lo] S1x1x256.size inb2).toLoadRect (harg4.unread x2)) Yv
        (arg22.view.readAt (Elt Ideal) (Rect.unit (s := S1024x1024) ![0, lo] S1024x256.size inbw).toLoadRect (harg22.unread x20)) x
      = out (fun n k => x0 (ix3 0 (rowN n) k)) A (mrow x2 2) (mat x20)
          ((Rect.unit (s := S1x256x1024) ![0, 0, lo] S1x256x256.size inb).emb x 1).val ((Rect.unit (s := S1x256x1024) ![0, 0, lo] S1x256x256.size inb).emb x 2) := by
  subst hY
  obtain ⟨z, r, j, rfl⟩ : ∃ (z : Fin 1) (r : Fin 256) (j : Fin 256), x = ix3 z r j := ⟨x 0, x 1, x 2, (ix3_eta x).symm⟩
  obtain rfl : z = 0 := Subsingleton.elim _ _
  have hj : lo + j.val < 1024 := by omega
  rw [emb3 inb 0 r j (by decide) (by omega) hj]
  refine (out_pay _ _ _ _ r j).trans ?_
  simp only [View.readAt_eq_ld, harg2.read_unread, harg4.read_unread, harg22.read_unread]
  unfold out
  congr 1
  · refine congrArg x0 ((emb3 inb0 0 r j (by decide) (by omega) hj).trans ?_)
    congr 1
    exact Fin.ext (by show 0 + r.val = (0 + r.val) % 256; omega)
  · congr 1
    · refine congrArg x2 ((emb3 inb2 0 0 j (by decide) (by decide) hj).trans ?_)
      rfl
    · refine Finset.sum_congr rfl fun k _ => ?_
      congr 1
      · show A r.val k = A (0 + r.val) k
        rw [Nat.zero_add]
      · refine congrArg x20 ((emb2 inbw k j (by omega) hj).trans ?_)
        congr 1
        exact Fin.ext (Nat.zero_add _)

theorem out_pieces : View.PiecesOf (OUT x0 x1 x2 x3 x4 x5 x6 x7 x8 x9 x10 x11 x12 x13 x14 x15 x16 x17 x18 x19 x20)
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20).1 := by
  have p := fun lo hlo => out_piece arg2 harg2 arg4 harg4 arg22 harg22 x0 x2 x20 lo hlo _ _ (y_read c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg24 arg25 arg26 arg27 arg28 arg29 arg30 arg31 arg32 arg33 arg34 arg35 arg36 arg37 arg38 x0 x1 x2 x3 x4 x5 x6 x7 x8 x9 x10 x11 x12 x13 x14 x15 x16 x17 x18 x19)
  exact ⟨p 768 (by decide) _ _ _ (by decide), p 512 (by decide) _ _ _ (by decide), p 256 (by decide) _ _ _ (by decide), p 0 (by decide) _ _ _ (by decide), trivial⟩

theorem out_eq : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 = OUT x0 x1 x2 x3 x4 x5 x6 x7 x8 x9 x10 x11 x12 x13 x14 x15 x16 x17 x18 x19 x20 := by
  unfold out0_A_21
  rw [View.read_writes_junk_eq_canon]
  funext y
  exact View.canon_apply_of_pieces _ _ (View.PiecesOf.mem (out_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20)) y (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 y)

end Cert.MixTail
end
-- ==== Proof.MixKer.lean ====
module

public import proofs.«01_k».proof.Proof.MixTail
public import proofs.«01_k».proof.Proof.MixG
public import proofs.«01_k».proof.Proof.Gen.MixKIdeal.Value
public import Idealize.ShloMosaic.Lib.StableHlo.ReadAt
public import Idealize.ShloMosaic.Lib.Pipeline.ValueKit

@[expose] public section

/-! The mixer call's result array, as one function of its arguments. -/

set_option maxRecDepth 16384

noncomputable section

namespace Cert.MixKer

open Idealize.ShloMosaic Idealize.ShloMosaic.TcCoe Idealize.SL.Sem Cert.MixKIdeal Cert.MixKIdeal.Gen Cert.Rows Cert.MixSpec Cert.MixRow Cert.MixCout

variable (m : (ℓ : Loc nD τ sig) → Buf (Elt Ideal) ℓ) (c : Dev nD)

theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, 0, 0]
    ∧ win0_21.index t = ![(grid0.coords t 0).val, (grid0.coords t 1).val, 0] := by decide +kernel

theorem idx0 : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0, 0] ∧ win0_18.index t = ![0, 0]
    ∧ win0_19.index t = ![0, 0] ∧ win0_20.index t = ![0, 0] := by decide +kernel

/-- The row of the sequence that row `n` of point `t`'s block is. -/
def T (t : Fin cfg0.N) : ℕ := (grid0.coords t 1).val

theorem T_lt (t : Fin cfg0.N) : T t < 64 := (grid0.coords t 1).isLt

def tok (t : Fin cfg0.N) (r : Fin 256) : Fin 16384 := ⟨(grid0.coords t 1).val * 256 + r.val, by have := T_lt t; unfold T at this; omega⟩

theorem tok_eq (t : Fin cfg0.N) (r : Fin 256) : tok t r = tokN (256 * T t + r.val) :=
  Fin.ext (by have := T_lt t; show T t * 256 + r.val = (256 * T t + r.val) % 16384; omega)

theorem x0_at (t : Fin cfg0.N) (r : Fin 256) (k : Fin 1024) :
    (iblk m c 0 t : Vec Ideal S1x256x1024 .f32) (ix3 0 r k) = (m ((c : Thread nD τ).loc main_arg0) : Vec Ideal S2x16384x1024 .f32) (ix3 (grid0.coords t 0) (tok t r) k) := by
  rw [← V_main_arg0 m c]
  blk_ext [iblk, idx t, tok]

theorem x1_at (t : Fin cfg0.N) (r : Fin 256) (k : Fin 1024) :
    (iblk m c 1 t : Vec Ideal S1x256x1024 .f32) (ix3 0 r k) = (m ((c : Thread nD τ).loc main_arg1) : Vec Ideal S2x16384x1024 .f32) (ix3 (grid0.coords t 0) (tok t r) k) := by
  rw [← V_main_arg1 m c]
  blk_ext [iblk, idx t, tok]

theorem v24_at (b : Fin 2) (p : Fin 8) (hp : p.val < 6) (j : Fin 1024) :
    (V m c main_v24 : Vec Ideal S2x8x1024 .f32) (ix3 b p j) = adaPart (m ((c : Thread nD τ).loc main_arg2)) p.val hp b j := by
  unfold V
  after_reads_at
  rw [dif_pos hp]
  rfl

theorem x2_at (t : Fin cfg0.N) (p : Fin 8) (hp : p.val < 6) :
    mrow (iblk m c 2 t : Vec Ideal S1x8x1024 .f32) p = adaPart (m ((c : Thread nD τ).loc main_arg2)) p.val hp (grid0.coords t 0) := by
  funext k
  refine Eq.trans ?_ (v24_at m c (grid0.coords t 0) p hp k)
  show (iblk m c 2 t : Vec Ideal S1x8x1024 .f32) (ix3 0 p k) = _
  blk_ext [iblk, idx t]

theorem v13_at (p : Fin 32) (hp : p.val < 31) (j : Fin 1024) :
    (V m c main_v13 : Vec Ideal S32x1024 .f32) (ix2 p j) = (m ((c : Thread nD τ).loc main_arg7) : Vec Ideal S31x1024 .f32) (ix2 ⟨p.val, hp⟩ j) := by
  unfold V
  after_reads_at
  rw [dif_pos hp]

theorem x10_at (t : Fin cfg0.N) :
    taps (iblk m c 10 t : Vec Ideal S32x1024 .f32) = fun p j => (m ((c : Thread nD τ).loc main_arg7) : Vec Ideal S31x1024 .f32) (ix2 p j) := by
  funext p j
  refine Eq.trans ?_ (v13_at m c ⟨p.val, by omega⟩ p.isLt j)
  show (iblk m c 10 t : Vec Ideal S32x1024 .f32) (ix2 _ j) = _
  blk_ext [iblk, idx0 t]

theorem x17_at (t : Fin cfg0.N) :
    MixTail.wsK (iblk m c 17 t : Vec Ideal S8x128x128 .bf16) = fun g r i => (m ((c : Thread nD τ).loc main_arg14) : Vec Ideal S8x128x128 .f32) (ix3 g r i) := by
  funext g r i
  have e : (iblk m c 17 t : Vec Ideal S8x128x128 .bf16) (ix3 g r i) = (V m c main_v20 : Vec Ideal S8x128x128 .bf16) (ix3 g r i) := by
    blk_ext [iblk, idx0 t]
  refine e.trans ?_
  unfold V
  after_reads_at

theorem x18_at (t : Fin cfg0.N) :
    mat (iblk m c 18 t : Vec Ideal S128x1024 .f32) = fun r j => (m ((c : Thread nD τ).loc main_arg15) : Vec Ideal S8x128 .f32) (ix2 ⟨j.val / 128, by omega⟩ r) := by
  funext r j
  have e : (iblk m c 18 t : Vec Ideal S128x1024 .f32) (ix2 r j) = (V m c main_v2 : Vec Ideal S128x1024 .f32) (ix2 r j) := by
    blk_ext [iblk, idx0 t]
  refine e.trans ?_
  unfold V
  after_reads_at

theorem x3_at (t : Fin cfg0.N) :
    row (iblk m c 3 t : Vec Ideal S1x1024 .f32) = fun k => (m ((c : Thread nD τ).loc main_arg3) : Vec Ideal S1024 .f32) (ix1 k) := by
  funext k
  have e : (iblk m c 3 t : Vec Ideal S1x1024 .f32) (ix2 0 k) = (V m c main_v25 : Vec Ideal S1x1024 .f32) (ix2 0 k) := by
    blk_ext [iblk, idx0 t]
  refine e.trans ?_
  unfold V
  after_reads_at

theorem x8_at (t : Fin cfg0.N) :
    row (iblk m c 8 t : Vec Ideal S1x1024 .f32) = fun k => (m ((c : Thread nD τ).loc main_arg5) : Vec Ideal S1024 .f32) (ix1 k) := by
  funext k
  have e : (iblk m c 8 t : Vec Ideal S1x1024 .f32) (ix2 0 k) = (V m c main_v11 : Vec Ideal S1x1024 .f32) (ix2 0 k) := by
    blk_ext [iblk, idx0 t]
  refine e.trans ?_
  unfold V
  after_reads_at

theorem x11_at (t : Fin cfg0.N) :
    row (iblk m c 11 t : Vec Ideal S1x1024 .f32) = fun k => (m ((c : Thread nD τ).loc main_arg8) : Vec Ideal S1024 .f32) (ix1 k) := by
  funext k
  have e : (iblk m c 11 t : Vec Ideal S1x1024 .f32) (ix2 0 k) = (V m c main_v14 : Vec Ideal S1x1024 .f32) (ix2 0 k) := by
    blk_ext [iblk, idx0 t]
  refine e.trans ?_
  unfold V
  after_reads_at

theorem x12_at (t : Fin cfg0.N) :
    row (iblk m c 12 t : Vec Ideal S1x1024 .f32) = fun k => (m ((c : Thread nD τ).loc main_arg9) : Vec Ideal S1024 .f32) (ix1 k) := by
  funext k
  have e : (iblk m c 12 t : Vec Ideal S1x1024 .f32) (ix2 0 k) = (V m c main_v15 : Vec Ideal S1x1024 .f32) (ix2 0 k) := by
    blk_ext [iblk, idx0 t]
  refine e.trans ?_
  unfold V
  after_reads_at

theorem x13_at (t : Fin cfg0.N) :
    row (iblk m c 13 t : Vec Ideal S1x1024 .f32) = fun k => (m ((c : Thread nD τ).loc main_arg10) : Vec Ideal S1024 .f32) (ix1 k) := by
  funext k
  have e : (iblk m c 13 t : Vec Ideal S1x1024 .f32) (ix2 0 k) = (V m c main_v16 : Vec Ideal S1x1024 .f32) (ix2 0 k) := by
    blk_ext [iblk, idx0 t]
  refine e.trans ?_
  unfold V
  after_reads_at

theorem x15_at (t : Fin cfg0.N) :
    row (iblk m c 15 t : Vec Ideal S1x1024 .f32) = fun k => (m ((c : Thread nD τ).loc main_arg12) : Vec Ideal S1024 .f32) (ix1 k) := by
  funext k
  have e : (iblk m c 15 t : Vec Ideal S1x1024 .f32) (ix2 0 k) = (V m c main_v18 : Vec Ideal S1x1024 .f32) (ix2 0 k) := by
    blk_ext [iblk, idx0 t]
  refine e.trans ?_
  unfold V
  after_reads_at

theorem x16_at (t : Fin cfg0.N) :
    row (iblk m c 16 t : Vec Ideal S1x1024 .f32) = fun k => (m ((c : Thread nD τ).loc main_arg13) : Vec Ideal S1024 .f32) (ix1 k) := by
  funext k
  have e : (iblk m c 16 t : Vec Ideal S1x1024 .f32) (ix2 0 k) = (V m c main_v19 : Vec Ideal S1x1024 .f32) (ix2 0 k) := by
    blk_ext [iblk, idx0 t]
  refine e.trans ?_
  unfold V
  after_reads_at

theorem x4_at (t : Fin cfg0.N) :
    mat (iblk m c 4 t : Vec Ideal S1024x1024 .bf16) = fun k j => (m ((c : Thread nD τ).loc main_arg4) : Vec Ideal S1024x10272 .f32) (ix2 k ⟨2080 + j.val, by omega⟩) := by
  funext k j
  have e : (iblk m c 4 t : Vec Ideal S1024x1024 .bf16) (ix2 k j) = (V m c main_v4 : Vec Ideal S1024x1024 .bf16) (ix2 k j) := by
    blk_ext [iblk, idx0 t]
  refine e.trans ?_
  unfold V
  after_reads_at

theorem x5_at (t : Fin cfg0.N) :
    mat (iblk m c 5 t : Vec Ideal S1024x2048 .bf16) = fun k j => (m ((c : Thread nD τ).loc main_arg4) : Vec Ideal S1024x10272 .f32) (ix2 k ⟨3104 + j.val, by omega⟩) := by
  funext k j
  have e : (iblk m c 5 t : Vec Ideal S1024x2048 .bf16) (ix2 k j) = (V m c main_v6 : Vec Ideal S1024x2048 .bf16) (ix2 k j) := by
    blk_ext [iblk, idx0 t]
  refine e.trans ?_
  unfold V
  after_reads_at

theorem x6_at (t : Fin cfg0.N) :
    mat (iblk m c 6 t : Vec Ideal S1024x2048 .bf16) = fun k j => (m ((c : Thread nD τ).loc main_arg4) : Vec Ideal S1024x10272 .f32) (ix2 k ⟨5152 + j.val, by omega⟩) := by
  funext k j
  have e : (iblk m c 6 t : Vec Ideal S1024x2048 .bf16) (ix2 k j) = (V m c main_v8 : Vec Ideal S1024x2048 .bf16) (ix2 k j) := by
    blk_ext [iblk, idx0 t]
  refine e.trans ?_
  unfold V
  after_reads_at

theorem x7_at (t : Fin cfg0.N) :
    mat (iblk m c 7 t : Vec Ideal S1024x3072 .bf16) = fun k j => (m ((c : Thread nD τ).loc main_arg4) : Vec Ideal S1024x10272 .f32) (ix2 k ⟨7200 + j.val, by omega⟩) := by
  funext k j
  have e : (iblk m c 7 t : Vec Ideal S1024x3072 .bf16) (ix2 k j) = (V m c main_v10 : Vec Ideal S1024x3072 .bf16) (ix2 k j) := by
    blk_ext [iblk, idx0 t]
  refine e.trans ?_
  unfold V
  after_reads_at

theorem x9_at (t : Fin cfg0.N) :
    mat (iblk m c 9 t : Vec Ideal S1024x1024 .bf16) = fun k j => (m ((c : Thread nD τ).loc main_arg6) : Vec Ideal S1024x1024 .f32) (ix2 k j) := by
  funext k j
  have e : (iblk m c 9 t : Vec Ideal S1024x1024 .bf16) (ix2 k j) = (V m c main_v12 : Vec Ideal S1024x1024 .bf16) (ix2 k j) := by
    blk_ext [iblk, idx0 t]
  refine e.trans ?_
  unfold V
  after_reads_at

theorem x14_at (t : Fin cfg0.N) :
    mat (iblk m c 14 t : Vec Ideal S1024x1024 .bf16) = fun k j => (m ((c : Thread nD τ).loc main_arg11) : Vec Ideal S1024x1024 .f32) (ix2 k j) := by
  funext k j
  have e : (iblk m c 14 t : Vec Ideal S1024x1024 .bf16) (ix2 k j) = (V m c main_v17 : Vec Ideal S1024x1024 .bf16) (ix2 k j) := by
    blk_ext [iblk, idx0 t]
  refine e.trans ?_
  unfold V
  after_reads_at

theorem x19_at (t : Fin cfg0.N) :
    mat (iblk m c 19 t : Vec Ideal S1024x1024 .bf16) = fun k j => (m ((c : Thread nD τ).loc main_arg16) : Vec Ideal S1024x1024 .f32) (ix2 k j) := by
  funext k j
  have e : (iblk m c 19 t : Vec Ideal S1024x1024 .bf16) (ix2 k j) = (V m c main_v21 : Vec Ideal S1024x1024 .bf16) (ix2 k j) := by
    blk_ext [iblk, idx0 t]
  refine e.trans ?_
  unfold V
  after_reads_at

theorem x20_at (t : Fin cfg0.N) :
    mat (iblk m c 20 t : Vec Ideal S1024x1024 .bf16) = fun k j => (m ((c : Thread nD τ).loc main_arg17) : Vec Ideal S1024x1024 .f32) (ix2 k j) := by
  funext k j
  have e : (iblk m c 20 t : Vec Ideal S1024x1024 .bf16) (ix2 k j) = (V m c main_v22 : Vec Ideal S1024x1024 .bf16) (ix2 k j) := by
    blk_ext [iblk, idx0 t]
  refine e.trans ?_
  unfold V
  after_reads_at

section Block
variable (t : Fin cfg0.N)

theorem hm_blk (n : ℕ) (hn : n < 256) :
    MixRow.HM (iblk m c 0 t) (iblk m c 2 t) (iblk m c 3 t) n = hm (m ((c : Thread nD τ).loc main_arg0)) (m ((c : Thread nD τ).loc main_arg2)) (m ((c : Thread nD τ).loc main_arg3)) (grid0.coords t 0) (256 * T t + n) := by
  unfold MixRow.HM hm
  rw [x3_at, x2_at m c t 1 (by decide), x2_at m c t 0 (by decide)]
  congr 1
  funext k
  rw [x0_at, tok_eq]
  have e : (rowN n).val = n := Nat.mod_eq_of_lt hn
  rw [e]

theorem r_blk (n : ℕ) (hn : n < 256) :
    MixRow.R (iblk m c 0 t) (iblk m c 2 t) (iblk m c 3 t) (iblk m c 4 t) n = MixSpec.R (m ((c : Thread nD τ).loc main_arg0)) (m ((c : Thread nD τ).loc main_arg2)) (m ((c : Thread nD τ).loc main_arg3)) (m ((c : Thread nD τ).loc main_arg4)) (grid0.coords t 0) (256 * T t + n) := by
  unfold MixRow.R
  rw [hm_blk m c t n hn, x4_at]
  rfl

theorem cv_blk (n : ℕ) (hn : n < 256) :
    MixRow.CV (iblk m c 0 t) (iblk m c 2 t) (iblk m c 3 t) (iblk m c 5 t) n = MixSpec.CV (m ((c : Thread nD τ).loc main_arg0)) (m ((c : Thread nD τ).loc main_arg2)) (m ((c : Thread nD τ).loc main_arg3)) (m ((c : Thread nD τ).loc main_arg4)) (grid0.coords t 0) (256 * T t + n) := by
  unfold MixRow.CV
  rw [hm_blk m c t n hn, x5_at]
  rfl

theorem sg_blk (n : ℕ) (hn : n < 256) :
    MixRow.SG (iblk m c 0 t) (iblk m c 2 t) (iblk m c 3 t) (iblk m c 6 t) n = MixSpec.SG (m ((c : Thread nD τ).loc main_arg0)) (m ((c : Thread nD τ).loc main_arg2)) (m ((c : Thread nD τ).loc main_arg3)) (m ((c : Thread nD τ).loc main_arg4)) (grid0.coords t 0) (256 * T t + n) := by
  unfold MixRow.SG
  rw [hm_blk m c t n hn, x6_at]
  rfl

theorem gt_blk (n : ℕ) (hn : n < 256) :
    MixRow.GT (iblk m c 0 t) (iblk m c 2 t) (iblk m c 3 t) (iblk m c 7 t) n = MixSpec.GT (m ((c : Thread nD τ).loc main_arg0)) (m ((c : Thread nD τ).loc main_arg2)) (m ((c : Thread nD τ).loc main_arg3)) (m ((c : Thread nD τ).loc main_arg4)) (grid0.coords t 0) (256 * T t + n) := by
  unfold MixRow.GT
  rw [hm_blk m c t n hn, x7_at]
  rfl

/-- The arguments' result. -/
def Gm (b : Fin 2) (s : Fin 16384) (j : Fin 1024) : EReal := MixSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) b s j

theorem ya_blk (n : ℕ) (hn : n < 256) :
    MixTail.YA (iblk m c 0 t) (iblk m c 1 t) (iblk m c 2 t) (iblk m c 3 t) (iblk m c 4 t) (iblk m c 8 t) (iblk m c 9 t) n = rowMul (ain (fun n k => (m ((c : Thread nD τ).loc main_arg1) : Vec Ideal S2x16384x1024 .f32) (ix3 (grid0.coords t 0) (tokN n) k))
      (fun k => (m ((c : Thread nD τ).loc main_arg5) : Vec Ideal S1024 .f32) (ix1 k)) (MixSpec.R (m ((c : Thread nD τ).loc main_arg0)) (m ((c : Thread nD τ).loc main_arg2)) (m ((c : Thread nD τ).loc main_arg3)) (m ((c : Thread nD τ).loc main_arg4)) (grid0.coords t 0)) (256 * T t + n))
      (fun k j => (m ((c : Thread nD τ).loc main_arg6) : Vec Ideal S1024x1024 .f32) (ix2 k j)) := by
  unfold MixTail.YA
  rw [x9_at]
  refine congrArg (fun X => rowMul X _) (funext fun k => ?_)
  unfold MixTail.AIN ain MixTail.ON
  rw [r_blk m c t n hn, x8_at, x1_at, tok_eq]
  have e : (rowN n).val = n := Nat.mod_eq_of_lt hn
  rw [e]

theorem yb_blk (n : ℕ) (hn : n < 256) :
    MixTail.YB (iblk m c 0 t) (iblk m c 2 t) (iblk m c 3 t) (iblk m c 5 t) (iblk m c 10 t) (iblk m c 11 t) (iblk m c 12 t) (iblk m c 13 t) (iblk m c 14 t) n = rowMul (bin (MixSpec.CV (m ((c : Thread nD τ).loc main_arg0)) (m ((c : Thread nD τ).loc main_arg2)) (m ((c : Thread nD τ).loc main_arg3)) (m ((c : Thread nD τ).loc main_arg4)) (grid0.coords t 0)) (fun p j => (m ((c : Thread nD τ).loc main_arg7) : Vec Ideal S31x1024 .f32) (ix2 p j))
      (fun k => (m ((c : Thread nD τ).loc main_arg8) : Vec Ideal S1024 .f32) (ix1 k)) (fun k => (m ((c : Thread nD τ).loc main_arg9) : Vec Ideal S1024 .f32) (ix1 k))
      (fun k => (m ((c : Thread nD τ).loc main_arg10) : Vec Ideal S1024 .f32) (ix1 k)) (256 * T t + n))
      (fun k j => (m ((c : Thread nD τ).loc main_arg11) : Vec Ideal S1024x1024 .f32) (ix2 k j)) := by
  unfold MixTail.YB
  rw [x14_at]
  refine congrArg (fun X => rowMul X _) (funext fun k => ?_)
  unfold MixTail.BIN
  rw [x10_at, x11_at, x12_at, x13_at]
  exact bin_blk _ _ _ _ _ _ (T t) n hn (cv_blk m c t) k

theorem yc_blk (n : ℕ) (hn : n < 256) :
    MixTail.YC (iblk m c 0 t) (iblk m c 2 t) (iblk m c 3 t) (iblk m c 6 t) (iblk m c 15 t) (iblk m c 16 t) (iblk m c 17 t) (iblk m c 18 t) (iblk m c 19 t) n = rowMul (cin (MixSpec.SG (m ((c : Thread nD τ).loc main_arg0)) (m ((c : Thread nD τ).loc main_arg2)) (m ((c : Thread nD τ).loc main_arg3)) (m ((c : Thread nD τ).loc main_arg4)) (grid0.coords t 0)) (fun k => (m ((c : Thread nD τ).loc main_arg12) : Vec Ideal S1024 .f32) (ix1 k))
      (fun k => (m ((c : Thread nD τ).loc main_arg13) : Vec Ideal S1024 .f32) (ix1 k))
      (fun g r i => (m ((c : Thread nD τ).loc main_arg14) : Vec Ideal S8x128x128 .f32) (ix3 g r i))
      (fun r j => (m ((c : Thread nD τ).loc main_arg15) : Vec Ideal S8x128 .f32) (ix2 ⟨j.val / 128, by omega⟩ r)) (256 * T t + n))
      (fun k j => (m ((c : Thread nD τ).loc main_arg16) : Vec Ideal S1024x1024 .f32) (ix2 k j)) := by
  unfold MixTail.YC
  rw [x19_at]
  refine congrArg (fun X => rowMul X _) (funext fun k => ?_)
  unfold MixTail.CIN
  rw [x15_at, x16_at, x17_at, x18_at]
  exact cin_blk _ _ _ _ _ _ (T t) n hn (sg_blk m c t) k

/-- The merged rows of a block. -/
theorem y_blk (n : ℕ) (hn : n < 256) (k : Fin 1024) :
    MixTail.Y (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) n k = MixSpec.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (grid0.coords t 0) (256 * T t + n) k := by
  unfold MixTail.Y MixSpec.Y merge
  rw [gt_blk m c t n hn, ya_blk m c t n hn, yb_blk m c t n hn, yc_blk m c t n hn]

theorem out_blk (r : Fin 256) (j : Fin 1024) :
    MixTail.OUT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix3 0 r j) = Gm m c (grid0.coords t 0) (tok t r) j := by
  unfold Gm MixTail.OUT MixSpec.G out
  have e : (rowN r.val).val = r.val := Nat.mod_eq_of_lt r.isLt
  have e2 : (tok t r).val = 256 * T t + r.val := by show T t * 256 + r.val = _; omega
  have er : rowN r.val = r := Fin.ext e
  show @HAdd.hAdd EReal EReal EReal _ ((iblk m c 0 t : Vec Ideal S1x256x1024 .f32) (ix3 0 (rowN r.val) j)) (mrow (iblk m c 2 t) 2 j * rowMul (MixTail.Y (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r.val) (mat (iblk m c 20 t)) j) = _
  rw [x2_at m c t 2 (by decide), x20_at, er, x0_at]
  simp only [tokN_val]
  rw [e2]
  refine congrArg (fun X => _ + _ * rowMul X _ j) (funext fun k => ?_)
  exact y_blk m c t r.val r.isLt k

end Block

theorem arr_main_v26 :
    (dats m 0 c).arrAt 21 cfg0.N = fun i : S2x16384x1024.Idx => Gm m c (i 0) (i 1) (i 2) := by
  refine (dats m 0 c).arrAt_eq_of_covers 21 _ (by decide +kernel) fun t hf y => ?_
  blk_simp
  rw [after0_21]
  unfold outsAt0
  rw [MixTail.out_eq]
  obtain ⟨z, r, j, rfl⟩ : ∃ (z : Fin 1) (r : Fin 256) (j : Fin 1024), y = ix3 z r j := ⟨y 0, y 1, y 2, (ix3_eta y).symm⟩
  obtain rfl : z = 0 := Subsingleton.elim _ _
  have e0 : (win0_21.blk t).view.emb (ix3 0 r j) = (ix3 (grid0.coords t 0) (tok t r) j : S2x16384x1024.Idx) := by
    blk_ext [idx t, tok]
  rw [e0]
  exact out_blk m c t r j

end Cert.MixKer
end
-- ==== Proof.MixRefOut.lean ====
module

public import proofs.«01_k».proof.Proof.MixRefConv
public import proofs.«01_k».proof.Proof.MixKer
public import Idealize.ShloMosaic.Lib.Claim
public import proofs.«01_k».proof.Defs

@[expose] public section

/-! The merge and the output of the mixer reference, and the equation of the two programs. -/

set_option maxRecDepth 16384

noncomputable section

namespace Cert.MixRef

open Idealize.ShloMosaic Idealize.ShloMosaic.TcCoe Idealize.SL.Sem Cert.MixRIdeal Cert.MixRIdeal.Read Cert.Rows Cert.MixSpec

variable (h on : Vec Ideal S2x16384x1024 .f32) (ada : Vec Ideal S2x1x6144 .f32) (g : Vec Ideal S1024 .f32) (w : Vec Ideal S1024x10272 .f32)
    (gg : Vec Ideal S1024 .f32) (wa : Vec Ideal S1024x1024 .f32) (cw : Vec Ideal S31x1024 .f32) (cb cg cb' : Vec Ideal S1024 .f32)
    (wb : Vec Ideal S1024x1024 .f32) (sg sb' : Vec Ideal S1024 .f32) (ws : Vec Ideal S8x128x128 .f32) (sb : Vec Ideal S8x128 .f32)
    (wc wo : Vec Ideal S1024x1024 .f32)

/-- The merged rows. -/
theorem y_at (b : Fin 2) (s : Fin 16384) (j : Fin 1024) :
    val_main_v362 (F := Ideal) h on ada g w gg wa cw cb cg cb' wb sg sb' ws sb wc (ix3 b s j)
      = Y h on ada g w gg wa cw cb cg cb' wb sg sb' ws sb wc b s.val j := by
  unfold val_main_v362 val_main_v361 val_main_v344 val_main_v360 val_main_v359 val_main_v358 val_main_v357 val_main_v296 val_main_v356
    val_main_v355 val_main_v354 val_main_v39 val_main_v353 val_main_v352 val_main_v351
  have h1 := ain_at h on ada g w gg
  have h2 := bin_at h ada g w cw cb cg cb'
  have h3 := cin_at h ada g w sg sb' ws sb
  have h4 := gate_at h ada g w
  generalize val_main_v38 (F := Ideal) h on ada g w gg = U1 at h1
  generalize val_main_v295 (F := Ideal) h ada g w cw cb cg cb' = U2 at h2
  generalize val_main_v343 (F := Ideal) h ada g w sg sb' ws sb = U3 at h3
  generalize val_main_v350 (F := Ideal) h ada g w = U4 at h4
  pointwise
  simp only [h1, h2, h3, h4]
  unfold Y merge
  rfl

theorem ref_at (b : Fin 2) (s : Fin 16384) (j : Fin 1024) :
    val_main_v366 (F := Ideal) h on ada g w gg wa cw cb cg cb' wb sg sb' ws sb wc wo (ix3 b s j)
      = G h on ada g w gg wa cw cb cg cb' wb sg sb' ws sb wc wo b s j := by
  unfold val_main_v366 val_main_v365 val_main_v363 val_main_v364 val_main_v2
  have h1 := y_at h on ada g w gg wa cw cb cg cb' wb sg sb' ws sb wc
  generalize val_main_v362 (F := Ideal) h on ada g w gg wa cw cb cg cb' wb sg sb' ws sb wc = U at h1
  pointwise
  simp only [h1]
  unfold G out
  simp only [tokN_val]
  rfl

/-- The value claim: kernel and reference leave the same array. -/
theorem algebraic : Cert.algebraic_MixKIdeal_MixRIdeal (hMixKIdeal := Cert.MixKIdeal.Gen.facts) (hMixRIdeal := Cert.MixRIdeal.Gen.facts) := by
  pair_intro
  · run_from Cert.MixKIdeal.Value.run_blocks m g
  · run_from Cert.MixRIdeal.Value.run m' g'
    obtain ⟨e0, e1, e2, e3, e4, e5, e6, e7, e8, e9, e10, e11, e12, e13, e14, e15, e16, e17⟩ := hagree c
    simp only [← e0, ← e1, ← e2, ← e3, ← e4, ← e5, ← e6, ← e7, ← e8, ← e9, ← e10, ← e11, ← e12, ← e13, ← e14, ← e15, ← e16, ← e17]
    refine (Cert.MixRIdeal.Read.val_main_v366_eq (StableHlo.launchContents m' c)).trans ?_
    rw [MixKer.arr_main_v26]
    funext i
    obtain ⟨b, s, j, rfl⟩ : ∃ (b : Fin 2) (s : Fin 16384) (j : Fin 1024), i = ix3 b s j := ⟨i 0, i 1, i 2, (ix3_eta i).symm⟩
    refine (ref_at _ _ _ _ _ _ _ _ _ _ _ _ _ _ _ _ _ _ b s j).trans ?_
    show _ = MixKer.Gm m c b s j
    unfold MixKer.Gm
    rw [← e0, ← e1, ← e2, ← e3, ← e4, ← e5, ← e6, ← e7, ← e8, ← e9, ← e10, ← e11, ← e12, ← e13, ← e14, ← e15, ← e16, ← e17]

end Cert.MixRef
end
-- ==== Proof.MixFrames.lean ====
module

public import proofs.«01_k».proof.Proof.Gen.MixKIdeal.Value
public import proofs.«01_k».proof.Proof.Gen.MixRIdeal.Run
public import proofs.«01_k».proof.Proof.Gen.MixK
public import Idealize.ShloMosaic.Lib.Claim
public import proofs.«01_k».proof.Defs

@[expose] public section

set_option maxRecDepth 16384

/-! The mixer call and its reference run, keep their arguments and leave every counter at zero. -/

noncomputable section
namespace Cert.MixFrames
open Idealize.ShloMosaic Idealize.ShloMosaic.TcCoe Idealize.SL.Sem

set_option maxHeartbeats 0 in
/-- The two printed texts hold the same body. -/
theorem defs_body : Cert.MixK.defs₀ (F := Bits) = Cert.MixKIdeal.defs₀ (F := Bits) := by
  unfold Cert.MixK.defs₀ Cert.MixKIdeal.defs₀
  refine congrArg Defs.onTc (funext fun l => funext fun x => ?_)
  match l, x with
  | 0, (t, s) => rfl

set_option maxHeartbeats 0 in
theorem defs_eq : Cert.MixKIdeal.defs (F := Bits) = Cert.MixK.defs (F := Bits) := congrArg (Pipeline.defs _) defs_body.symm

set_option maxHeartbeats 0 in
theorem frame_kernel : Cert.quiescent_MixK (hMixK := Cert.MixK.Gen.facts) := by
  intro m ρ _
  have h := Cert.MixKIdeal.Gen.frame (F := Bits) m ρ
  rw [defs_eq] at h
  exact h
theorem frame_ideal : Cert.quiescent_MixKIdeal (hMixKIdeal := Cert.MixKIdeal.Gen.facts) := by
  intro m ρ _
  exact Cert.MixKIdeal.Gen.frame (F := Ideal) m ρ

theorem frame_ref : Cert.quiescent_MixRIdeal (hMixRIdeal := Cert.MixRIdeal.Gen.facts) := by
  intro m ρ _
  have h := Cert.MixRIdeal.Value.run (F := Ideal) m ρ
  refine (θ_run Cert.MixRIdeal.defs _ _).mono ?_ h
  intro r h
  refine ⟨fun c => ?_, ?_⟩
  · exact (h c).2
  · exact sem_eq_zero_of_no_sems (by decide) r.2

end Cert.MixFrames
end
-- ==== Proof.FwdFrames.lean ====
module

public import proofs.«01_k».proof.Proof.Gen.FwdKIdeal.Frame
public import proofs.«01_k».proof.Proof.Gen.FwdK
public import Idealize.ShloMosaic.Lib.Claim
public import proofs.«01_k».proof.Defs

@[expose] public section

set_option maxRecDepth 16384

/-! The forward scan runs, keeps its arguments and leaves every counter at zero. -/

noncomputable section
namespace Cert.FwdFrames
open Idealize.ShloMosaic Idealize.ShloMosaic.TcCoe Idealize.SL.Sem

/-- The two printed texts hold the same body. -/
theorem defs_body : Cert.FwdK.defs₀ (F := Bits) = Cert.FwdKIdeal.defs₀ (F := Bits) := by
  unfold Cert.FwdK.defs₀ Cert.FwdKIdeal.defs₀
  refine congrArg Defs.onTc (funext fun l => funext fun x => ?_)
  match l, x with
  | 0, (t, s) => rfl

theorem defs_eq : Cert.FwdKIdeal.defs (F := Bits) = Cert.FwdK.defs (F := Bits) := congrArg (Pipeline.defs _) defs_body.symm

theorem frame_kernel : Cert.quiescent_FwdK (hFwdK := Cert.FwdK.Gen.facts) := by
  intro m ρ _
  have h := Cert.FwdKIdeal.Gen.frame (F := Bits) m ρ
  rw [defs_eq] at h
  exact h

theorem frame_ideal : Cert.quiescent_FwdKIdeal (hFwdKIdeal := Cert.FwdKIdeal.Gen.facts) := fun m ρ _ => Cert.FwdKIdeal.Gen.frame m ρ

end Cert.FwdFrames
end
-- ==== Proof.BwdFrames.lean ====
module

public import proofs.«01_k».proof.Proof.Gen.BwdKIdeal.Frame
public import proofs.«01_k».proof.Proof.Gen.BwdK
public import Idealize.ShloMosaic.Lib.Claim
public import proofs.«01_k».proof.Defs

@[expose] public section

set_option maxRecDepth 16384

/-! The backward scan runs, keeps its arguments and leaves every counter at zero. -/

noncomputable section
namespace Cert.BwdFrames
open Idealize.ShloMosaic Idealize.ShloMosaic.TcCoe Idealize.SL.Sem

/-- The two printed texts hold the same body. -/
theorem defs_body : Cert.BwdK.defs₀ (F := Bits) = Cert.BwdKIdeal.defs₀ (F := Bits) := by
  unfold Cert.BwdK.defs₀ Cert.BwdKIdeal.defs₀
  refine congrArg Defs.onTc (funext fun l => funext fun x => ?_)
  match l, x with
  | 0, (t, s) => rfl

theorem defs_eq : Cert.BwdKIdeal.defs (F := Bits) = Cert.BwdK.defs (F := Bits) := congrArg (Pipeline.defs _) defs_body.symm

set_option maxHeartbeats 0 in
theorem frame_kernel : Cert.quiescent_BwdK (hBwdK := Cert.BwdK.Gen.facts) := by
  intro m ρ _
  have h := Cert.BwdKIdeal.Gen.frame (F := Bits) m ρ
  rw [defs_eq] at h
  exact h

theorem frame_ideal : Cert.quiescent_BwdKIdeal (hBwdKIdeal := Cert.BwdKIdeal.Gen.facts) := by
  intro m ρ _
  exact Cert.BwdKIdeal.Gen.frame (F := Ideal) m ρ

end Cert.BwdFrames
end
-- ==== Proof.lean ====
module

public import proofs.«01_k».proof.Proof.FfnRef
public import proofs.«01_k».proof.Proof.FfnFrames
public import proofs.«01_k».proof.Proof.MixRefOut
public import proofs.«01_k».proof.Proof.MixFrames
public import proofs.«01_k».proof.Proof.FwdFrames
public import proofs.«01_k».proof.Proof.BwdFrames

@[expose] public section

noncomputable section
namespace Cert.Proof

theorem claim : Cert.Claim :=
  ⟨Cert.FfnK.Gen.facts, Cert.FfnKIdeal.Gen.facts, Cert.FfnRIdeal.Gen.facts,
    Cert.MixK.Gen.facts, Cert.MixKIdeal.Gen.facts, Cert.MixRIdeal.Gen.facts,
    Cert.FwdK.Gen.facts, Cert.FwdKIdeal.Gen.facts, Cert.BwdK.Gen.facts, Cert.BwdKIdeal.Gen.facts,
    FfnFrames.frame_kernel, FfnFrames.frame_ideal, FfnFrames.frame_ref,
    MixFrames.frame_kernel, MixFrames.frame_ideal, MixFrames.frame_ref,
    FwdFrames.frame_kernel, FwdFrames.frame_ideal, BwdFrames.frame_kernel, BwdFrames.frame_ideal,
    trivial, FfnRef.algebraic, trivial, MixRef.algebraic, trivial, trivial⟩

end Cert.Proof
end
